-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x512x16384 : Shape := ⟨3, ![8, 512, 16384]⟩
abbrev S256x512 : Shape := ⟨2, ![256, 512]⟩
abbrev S256 : Shape := ⟨1, ![256]⟩
abbrev S512x256 : Shape := ⟨2, ![512, 256]⟩
abbrev S512 : Shape := ⟨1, ![512]⟩
abbrev S1024x256 : Shape := ⟨2, ![1024, 256]⟩
abbrev S1024 : Shape := ⟨1, ![1024]⟩
abbrev S_ : Shape := ⟨0, ![]⟩

class Facts : Prop where
  bcast_S_S8x512x16384 : S_.BroadcastsInDim S8x512x16384 (![] : Fin 0 → Fin S8x512x16384.rank)
  reducesTo_S8x512x16384_S_d0_1_2 : S8x512x16384.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg8 : FVec F S1024x256 .f32) (main_arg9 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1024x256 .f32 := Host.absf main_arg8
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg9
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x512x16384 .f32) (main_arg1 : FVec F S8x512x16384 .f32) (main_arg2 : FVec F S256x512 .f32) (main_arg3 : FVec F S256 .f32) (main_arg4 : FVec F S512x256 .f32) (main_arg5 : FVec F S512 .f32) (main_arg6 : FVec F S256x512 .f32) (main_arg7 : FVec F S256 .f32) (main_arg8 : FVec F S1024x256 .f32) (main_arg9 : FVec F S1024 .f32) : IVec S_ 1 :=
  let main_v0 : FVec F S8x512x16384 .f32 := Host.absf main_arg0
  let main_cst : FVec F S_ .f32 := constant S_ .f32 0x7F800000#32
  let main_v1 : FVec F S8x512x16384 .f32 := broadcastInDim S8x512x16384 ![] bcast_S_S8x512x16384 main_cst
  let main_v2 : IVec S8x512x16384 1 := cmpf .olt main_v0 main_v1
  let main_c : IVec S_ 1 := constantI S_ 1 1#1
  let main_v3 : IVec S_ 1 := (fun x v => Host.reduce IntOp.andi x v reducesTo_S8x512x16384_S_d0_1_2 h_S_) main_v2 main_c
  let main_v4 : FVec F S8x512x16384 .f32 := Host.absf main_arg1
  let main_cst_0 : FVec F S_ .f32 := constant S_ .f32 0x7F800000#32
  let main_v5 : FVec F S8x512x16384 .f32 := broadcastInDim S8x512x16384 ![] bcast_S_S8x512x16384 main_cst_0
  let main_v6 : IVec S8x512x16384 1 := cmpf .olt main_v4 main_v5
  let main_c_1 : IVec S_ 1 := constantI S_ 1 1#1
  let main_v7 : IVec S_ 1 := (fun x v => Host.reduce IntOp.andi x v reducesTo_S8x512x16384_S_d0_1_2 h_S_) main_v6 main_c_1
  let main_v8 : IVec S_ 1 := andi main_v3 main_v7
  let main_v9 : FVec F S256x512 .f32 := Host.absf main_arg6
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_v13 main_v16
-- ==== Kernel.lean ====
abbrev S8x512x16384 : Shape := ⟨3, ![8, 512, 16384]⟩
abbrev S256x512 : Shape := ⟨2, ![256, 512]⟩
abbrev S256 : Shape := ⟨1, ![256]⟩
abbrev S512x256 : Shape := ⟨2, ![512, 256]⟩
abbrev S512 : Shape := ⟨1, ![512]⟩
abbrev S1024x256 : Shape := ⟨2, ![1024, 256]⟩
abbrev S1024 : Shape := ⟨1, ![1024]⟩
abbrev S256x1 : Shape := ⟨2, ![256, 1]⟩
abbrev S512x1 : Shape := ⟨2, ![512, 1]⟩
abbrev S1x256 : Shape := ⟨2, ![1, 256]⟩
abbrev S1x1024 : Shape := ⟨2, ![1, 1024]⟩
abbrev S8x512x1 : Shape := ⟨3, ![8, 512, 1]⟩
abbrev S1x512x4096 : Shape := ⟨3, ![1, 512, 4096]⟩
abbrev S1x512x1 : Shape := ⟨3, ![1, 512, 1]⟩
abbrev S512x4096 : Shape := ⟨2, ![512, 4096]⟩
abbrev S256x4096 : Shape := ⟨2, ![256, 4096]⟩
abbrev S8x512 : Shape := ⟨2, ![8, 512]⟩
abbrev S8 : Shape := ⟨1, ![8]⟩
abbrev S8x1 : Shape := ⟨2, ![8, 1]⟩
abbrev S8x256 : Shape := ⟨2, ![8, 256]⟩
abbrev S8x1024 : Shape := ⟨2, ![8, 1024]⟩

abbrev nBuf : Space → Nat
  | .hbm => 32
  | .vmem => 36
  | .smem => 0
  | _ => 0

abbrev bufTy : (tb : Table) → Fin (tcTables nBuf tb) → BufTy
  | .hbm, ⟨0, _⟩ => ⟨S8x512x16384, .f32⟩
  | .hbm, ⟨1, _⟩ => ⟨S8x512x16384, .f32⟩
  | .hbm, ⟨2, _⟩ => ⟨S256x512, .f32⟩
  | .hbm, ⟨3, _⟩ => ⟨S256, .f32⟩
  | .hbm, ⟨4, _⟩ => ⟨S512x256, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S1024x256, .f32⟩
  | .hbm, ⟨9, _⟩ => ⟨S1024, .f32⟩
  | .hbm, ⟨10, _⟩ => ⟨S256x512, .bf16⟩
  | .hbm, ⟨11, _⟩ => ⟨S512x256, .bf16⟩
  | .hbm, ⟨12, _⟩ => ⟨S256x512, .bf16⟩
  | .hbm, ⟨13, _⟩ => ⟨S1024x256, .bf16⟩
  | .hbm, ⟨14, _⟩ => ⟨S256x1, .f32⟩
  | .hbm, ⟨15, _⟩ => ⟨S512x1, .f32⟩
  | .hbm, ⟨16, _⟩ => ⟨S1x256, .f32⟩
  | .hbm, ⟨17, _⟩ => ⟨S1x1024, .f32⟩
  | .hbm, ⟨18, _⟩ => ⟨S8x512x1, .f32⟩
  | .hbm, ⟨19, _⟩ => ⟨S8x512x1, .f32⟩
  | .hbm, ⟨20, _⟩ => ⟨S8x512x1, .f32⟩
  | .hbm, ⟨21, _⟩ => ⟨S8x512x1, .f32⟩
  | .hbm, ⟨22, _⟩ => ⟨S8x512, .f32⟩
  | .hbm, ⟨23, _⟩ => ⟨S8x512, .f32⟩
  | .hbm, ⟨24, _⟩ => ⟨S8x512, .f32⟩
  | .hbm, ⟨25, _⟩ => ⟨S8x512, .f32⟩
  | .hbm, ⟨26, _⟩ => ⟨S8x512, .f32⟩
  | .hbm, ⟨27, _⟩ => ⟨S8x512, .f32⟩
  | .hbm, ⟨28, _⟩ => ⟨S8x512x1, .f32⟩
  | .hbm, ⟨29, _⟩ => ⟨S8x512x1, .f32⟩
  | .hbm, ⟨30, _⟩ => ⟨S8x512x1, .f32⟩
  | .hbm, ⟨31, _⟩ => ⟨S8x512x16384, .f32⟩
  | .local _ .vmem, ⟨0, _⟩ => ⟨S256x512, .bf16⟩
  | .local _ .vmem, ⟨1, _⟩ => ⟨S256x1, .f32⟩
  | .local _ .vmem, ⟨2, _⟩ => ⟨S512x256, .bf16⟩
  | .local _ .vmem, ⟨3, _⟩ => ⟨S512x1, .f32⟩
  | .local _ .vmem, ⟨4, _⟩ => ⟨S1x512x4096, .f32⟩
  | .local _ .vmem, ⟨5, _⟩ => ⟨S1x512x4096, .f32⟩
  | .local _ .vmem, ⟨6, _⟩ => ⟨S1x512x4096, .f32⟩
  | .local _ .vmem, ⟨7, _⟩ => ⟨S1x512x4096, .f32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S1x512x1, .f32⟩
  | .local _ .vmem, ⟨13, _⟩ => ⟨S1x512x1, .f32⟩
  | .local _ .vmem, ⟨14, _⟩ => ⟨S1x512x1, .f32⟩
  | .local _ .vmem, ⟨15, _⟩ => ⟨S1x512x1, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S256x512, .bf16⟩
  | .local _ .vmem, ⟨21, _⟩ => ⟨S1x256, .f32⟩
  | .local _ .vmem, ⟨22, _⟩ => ⟨S1024x256, .bf16⟩
  | .local _ .vmem, ⟨23, _⟩ => ⟨S1x1024, .f32⟩
  | .local _ .vmem, ⟨24, _⟩ => ⟨S8x512, .f32⟩
  | .local _ .vmem, ⟨25, _⟩ => ⟨S8x512, .f32⟩
  | .local _ .vmem, ⟨26, _⟩ => ⟨S1x512x4096, .f32⟩
  | .local _ .vmem, ⟨27, _⟩ => ⟨S1x512x4096, .f32⟩
  | .local _ .vmem, ⟨28, _⟩ => ⟨S1x512x1, .f32⟩
  | .local _ .vmem, ⟨29, _⟩ => ⟨S1x512x1, .f32⟩
  | .local _ .vmem, ⟨30, _⟩ => ⟨S1x512x1, .f32⟩
  | .local _ .vmem, ⟨31, _⟩ => ⟨S1x512x1, .f32⟩
  | .local _ .vmem, ⟨32, _⟩ => ⟨S1x512x1, .f32⟩
  | .local _ .vmem, ⟨33, _⟩ => ⟨S1x512x1, .f32⟩
  | .local _ .vmem, ⟨34, _⟩ => ⟨S1x512x4096, .f32⟩
  | .local _ .vmem, ⟨35, _⟩ => ⟨S1x512x4096, .f32⟩
  | _, _ => ⟨S8x512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v32 : BitVec 1 := Scalar.cmpi .eq arg1 c0_i32
  let v33 : BitVec 32 := Scalar.extui v32
  let c0_i32_19 : BitVec 32 := 0#32
  let v34 : BitVec 1 := Scalar.cmpi .ne v33 c0_i32_19
  v34

def k0_cond2 (i : grid0.Coords) : BitVec 1 :=
  let arg1 : BitVec 32 := BitVec.ofNat 32 (i 1).val
  let c0_i32_20 : BitVec 32 := 0#32
  let v35 : BitVec 1 := Scalar.cmpi .ne arg1 c0_i32_20
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨2, ![8, 4], ![false, false]⟩

def k2_cond1 (i : grid2.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_11 : BitVec 32 := 0#32
  let v18 : BitVec 1 := Scalar.cmpi .ne v17 c0_i32_11
  v18

def k2_cond2 (i : grid2.Coords) : BitVec 1 :=
  let arg1 : BitVec 32 := BitVec.ofNat 32 (i 1).val
  let c0_i32_12 : BitVec 32 := 0#32
  let v19 : BitVec 1 := Scalar.cmpi .ne arg1 c0_i32_12
  let v20 : BitVec 32 := Scalar.extui v19
  let c0_i32_13 : BitVec 32 := 0#32
  let v21 : BitVec 1 := Scalar.cmpi .ne v20 c0_i32_13
  v21

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x512x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S8x512x16384 : Shape := ⟨3, ![8, 512, 16384]⟩
abbrev S256x512 : Shape := ⟨2, ![256, 512]⟩
abbrev S256 : Shape := ⟨1, ![256]⟩
abbrev S512x256 : Shape := ⟨2, ![512, 256]⟩
abbrev S512 : Shape := ⟨1, ![512]⟩
abbrev S1024x256 : Shape := ⟨2, ![1024, 256]⟩
abbrev S1024 : Shape := ⟨1, ![1024]⟩
abbrev S_ : Shape := ⟨0, ![]⟩
abbrev S8x512 : Shape := ⟨2, ![8, 512]⟩
abbrev S8x512x1 : Shape := ⟨3, ![8, 512, 1]⟩
abbrev S8 : Shape := ⟨1, ![8]⟩
abbrev S8x1x1 : Shape := ⟨3, ![8, 1, 1]⟩
abbrev S8x16384x256 : Shape := ⟨3, ![8, 16384, 256]⟩
abbrev S8x256x16384 : Shape := ⟨3, ![8, 256, 16384]⟩
abbrev S1x256x1 : Shape := ⟨3, ![1, 256, 1]⟩
abbrev S8x16384x512 : Shape := ⟨3, ![8, 16384, 512]⟩
abbrev S1x512x1 : Shape := ⟨3, ![1, 512, 1]⟩
abbrev S8x1x256 : Shape := ⟨3, ![8, 1, 256]⟩
abbrev S8x256x1 : Shape := ⟨3, ![8, 256, 1]⟩
abbrev S8x1x1024 : Shape := ⟨3, ![8, 1, 1024]⟩
abbrev S8x1024x1 : Shape := ⟨3, ![8, 1024, 1]⟩
abbrev S1x1024x1 : Shape := ⟨3, ![1, 1024, 1]⟩

abbrev nBuf : Space → Nat
  | .hbm => 155
  | .vmem => 0
  | .smem => 0
  | _ => 0

abbrev hbmTy0_0 (i : Nat) : BufTy := match i % 128 with
  | 0 => ⟨S8x512x16384, .f32⟩
  | 1 => ⟨S8x512x16384, .f32⟩
  | 2 => ⟨S256x512, .f32⟩
  | 3 => ⟨S256, .f32⟩
  | 4 => ⟨S512x256, .f32⟩
  | 5 => ⟨S512, .f32⟩
  | 6 => ⟨S256x512, .f32⟩
  | 7 => ⟨S256, .f32⟩
  | 8 => ⟨S1024x256, .f32⟩
  | 9 => ⟨S1024, .f32⟩
  | 10 => ⟨S_, .f32⟩
  | 11 => ⟨S8x512, .f32⟩
  | 12 => ⟨S8x512x1, .f32⟩
  | 13 => ⟨S_, .f32⟩
  | 14 => ⟨S8x512x1, .f32⟩
  | 15 => ⟨S8x512x1, .f32⟩
  | 16 => ⟨S_, .i32⟩
  | 17 => ⟨S_, .f32⟩
  | 18 => ⟨S8x512, .f32⟩
  | 19 => ⟨S8x512x1, .f32⟩
  | 20 => ⟨S_, .f32⟩
  | 21 => ⟨S8x512x1, .f32⟩
  | 22 => ⟨S8x512x1, .f32⟩
  | 23 => ⟨S8x512x16384, .f32⟩
  | 24 => ⟨S8x512x16384, .f32⟩
  | 25 => ⟨S8x512x16384, .f32⟩
  | 26 => ⟨S_, .f32⟩
  | 27 => ⟨S_, .f32⟩
  | 28 => ⟨S_, .f32⟩
  | 29 => ⟨S_, .f32⟩
  | 30 => ⟨S8x512, .f32⟩
  | 31 => ⟨S8x512x1, .f32⟩
  | 32 => ⟨S8x512x1, .f32⟩
  | 33 => ⟨S8x512x1, .f32⟩
  | 34 => ⟨S_, .f32⟩
  | 35 => ⟨S_, .i1⟩
  | 36 => ⟨S_, .f32⟩
  | 37 => ⟨S_, .f32⟩
  | 38 => ⟨S8x512x1, .f32⟩
  | 39 => ⟨S8x512x1, .f32⟩
  | 40 => ⟨S_, .f32⟩
  | 41 => ⟨S8x512x1, .f32⟩
  | 42 => ⟨S8x512x1, .f32⟩
  | 43 => ⟨S8x512x1, .f32⟩
  | 44 => ⟨S_, .f32⟩
  | 45 => ⟨S8, .f32⟩
  | 46 => ⟨S8x1x1, .f32⟩
  | 47 => ⟨S_, .f32⟩
  | 48 => ⟨S8x1x1, .f32⟩
  | 49 => ⟨S8x1x1, .f32⟩
  | 50 => ⟨S_, .i32⟩
  | 51 => ⟨S_, .f32⟩
  | 52 => ⟨S8, .f32⟩
  | 53 => ⟨S8x1x1, .f32⟩
  | 54 => ⟨S_, .f32⟩
  | 55 => ⟨S8x1x1, .f32⟩
  | 56 => ⟨S8x1x1, .f32⟩
  | 57 => ⟨S8x512x16384, .f32⟩
  | 58 => ⟨S8x512x16384, .f32⟩
  | 59 => ⟨S8x512x16384, .f32⟩
  | 60 => ⟨S_, .f32⟩
  | 61 => ⟨S_, .f32⟩
  | 62 => ⟨S_, .f32⟩
  | 63 => ⟨S_, .f32⟩
  | 64 => ⟨S8, .f32⟩
  | 65 => ⟨S8x1x1, .f32⟩
  | 66 => ⟨S8x1x1, .f32⟩
  | 67 => ⟨S8x1x1, .f32⟩
  | 68 => ⟨S_, .f32⟩
  | 69 => ⟨S_, .i1⟩
  | 70 => ⟨S_, .f32⟩
  | 71 => ⟨S_, .f32⟩
  | 72 => ⟨S8x1x1, .f32⟩
  | 73 => ⟨S8x1x1, .f32⟩
  | 74 => ⟨S_, .f32⟩
  | 75 => ⟨S8x1x1, .f32⟩
  | 76 => ⟨S8x1x1, .f32⟩
  | 77 => ⟨S8x1x1, .f32⟩
  | 78 => ⟨S8x16384x256, .f32⟩
  | 79 => ⟨S8x256x16384, .f32⟩
  | 80 => ⟨S1x256x1, .f32⟩
  | 81 => ⟨S8x256x16384, .f32⟩
  | 82 => ⟨S8x256x16384, .f32⟩
  | 83 => ⟨S_, .f32⟩
  | 84 => ⟨S8x256x16384, .f32⟩
  | 85 => ⟨S8x256x16384, .f32⟩
  | 86 => ⟨S8x16384x512, .f32⟩
  | 87 => ⟨S8x512x16384, .f32⟩
  | 88 => ⟨S1x512x1, .f32⟩
  | 89 => ⟨S8x512x16384, .f32⟩
  | 90 => ⟨S8x512x16384, .f32⟩
  | 91 => ⟨S8x512x16384, .f32⟩
  | 92 => ⟨S8x512x16384, .f32⟩
  | 93 => ⟨S_, .f32⟩
  | 94 => ⟨S8x512x16384, .f32⟩
  | 95 => ⟨S8x512x16384, .f32⟩
  | 96 => ⟨S_, .f32⟩
  | 97 => ⟨S8x512x16384, .f32⟩
  | 98 => ⟨S8x512x16384, .f32⟩
  | 99 => ⟨S_, .f32⟩
  | 100 => ⟨S8x512, .f32⟩
  | 101 => ⟨S8x512x1, .f32⟩
  | 102 => ⟨S_, .f32⟩
  | 103 => ⟨S8x512x1, .f32⟩
  | 104 => ⟨S8x512x1, .f32⟩
  | 105 => ⟨S8x512x1, .f32⟩
  | 106 => ⟨S_, .f32⟩
  | 107 => ⟨S8x512x1, .f32⟩
  | 108 => ⟨S8x512x1, .f32⟩
  | 109 => ⟨S8x512x1, .f32⟩
  | 110 => ⟨S8x512x1, .f32⟩
  | 111 => ⟨S8x512x1, .f32⟩
  | 112 => ⟨S8x512x1, .f32⟩
  | 113 => ⟨S_, .f32⟩
  | 114 => ⟨S8x512x1, .f32⟩
  | 115 => ⟨S8x512x1, .f32⟩
  | 116 => ⟨S8x512x1, .f32⟩
  | 117 => ⟨S8x512x1, .f32⟩
  | 118 => ⟨S8x512x1, .f32⟩
  | 119 => ⟨S8x512x16384, .f32⟩
  | 120 => ⟨S8x512x16384, .f32⟩
  | 121 => ⟨S8x512x16384, .f32⟩
  | 122 => ⟨S8x512x16384, .f32⟩
  | 123 => ⟨S_, .f32⟩
  | 124 => ⟨S8x512, .f32⟩
  | 125 => ⟨S8x512x1, .f32⟩
  | 126 => ⟨S_, .f32⟩
  | 127 => ⟨S8x512x1, .f32⟩
  | _ => ⟨S8x512x16384, .f32⟩

abbrev hbmTy0_1 (i : Nat) : BufTy := match i % 128 with
  | 0 => ⟨S8x512x1, .f32⟩
  | 1 => ⟨S8x1x256, .f32⟩
  | 2 => ⟨S8x256x1, .f32⟩
  | 3 => ⟨S1x256x1, .f32⟩
  | 4 => ⟨S8x256x1, .f32⟩
  | 5 => ⟨S8x256x1, .f32⟩
  | 6 => ⟨S_, .f32⟩
  | 7 => ⟨S8x256x1, .f32⟩
  | 8 => ⟨S8x256x1, .f32⟩
  | 9 => ⟨S8x1x1024, .f32⟩
  | 10 => ⟨S8x1024x1, .f32⟩
  | 11 => ⟨S1x1024x1, .f32⟩
  | 12 => ⟨S8x1024x1, .f32⟩
  | 13 => ⟨S8x1024x1, .f32⟩
  | 14 => ⟨S8x512x1, .f32⟩
  | 15 => ⟨S8x512x1, .f32⟩
  | 16 => ⟨S_, .f32⟩
  | 17 => ⟨S8x512x1, .f32⟩
  | 18 => ⟨S8x512x1, .f32⟩
  | 19 => ⟨S8x512x16384, .f32⟩
  | 20 => ⟨S8x512x16384, .f32⟩
  | 21 => ⟨S8x512x16384, .f32⟩
  | 22 => ⟨S8x512x16384, .f32⟩
  | 23 => ⟨S8x512x16384, .f32⟩
  | 24 => ⟨S_, .f32⟩
  | 25 => ⟨S8x512, .f32⟩
  | 26 => ⟨S8x512x1, .f32⟩
  | _ => ⟨S8x512x16384, .f32⟩

abbrev hbmTy (i : Nat) : BufTy := match i / 128 with
  | 0 => hbmTy0_0 i
  | 1 => hbmTy0_1 i
  | _ => ⟨S8x512x16384, .f32⟩

abbrev bufTy : (tb : Table) → Fin (tcTables nBuf tb) → BufTy
  | .hbm, ⟨i, _⟩ => hbmTy i
  | _, _ => ⟨S8x512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_cst_1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_2 : Ref sig .tc := ⟨.hbm, 44, rfl⟩
abbrev main_v8 : Ref sig .tc := ⟨.hbm, 45, rfl⟩
abbrev main_v9 : Ref sig .tc := ⟨.hbm, 46, rfl⟩
abbrev main_cst_3 : Ref sig .tc := ⟨.hbm, 47, rfl⟩
abbrev main_v10 : Ref sig .tc := ⟨.hbm, 48, rfl⟩
abbrev main_v11 : Ref sig .tc := ⟨.hbm, 49, rfl⟩
abbrev main_c_4 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v12 : Ref sig .tc := ⟨.hbm, 73, rfl⟩
abbrev main_cst_5 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_call2_cst : Ref sig .tc := ⟨.hbm, 83, rfl⟩
abbrev main_call2_v0 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_cst_6 : Ref sig .tc := ⟨.hbm, 93, rfl⟩
abbrev main_v29 : Ref sig .tc := ⟨.hbm, 94, rfl⟩
abbrev main_v30 : Ref sig .tc := ⟨.hbm, 95, rfl⟩
abbrev main_cst_7 : Ref sig .tc := ⟨.hbm, 96, rfl⟩
abbrev main_v31 : Ref sig .tc := ⟨.hbm, 97, rfl⟩
abbrev main_v32 : Ref sig .tc := ⟨.hbm, 98, rfl⟩
abbrev main_cst_8 : Ref sig .tc := ⟨.hbm, 99, rfl⟩
abbrev main_v33 : Ref sig .tc := ⟨.hbm, 100, rfl⟩
abbrev main_v34 : Ref sig .tc := ⟨.hbm, 101, rfl⟩
abbrev main_cst_9 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_cst_10 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_cst_11 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_cst_12 : Ref sig .tc := ⟨.hbm, 123, rfl⟩
abbrev main_v53 : Ref sig .tc := ⟨.hbm, 124, rfl⟩
abbrev main_v54 : Ref sig .tc := ⟨.hbm, 125, rfl⟩
abbrev main_cst_13 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_call3_cst : Ref sig .tc := ⟨.hbm, 134, rfl⟩
abbrev main_call3_v0 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_14 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_cst_15 : Ref sig .tc := ⟨.hbm, 152, rfl⟩
abbrev main_v77 : Ref sig .tc := ⟨.hbm, 153, rfl⟩
abbrev main_v78 : Ref sig .tc := ⟨.hbm, 154, rfl⟩

abbrev nD : Nat := 1
abbrev τ : Topo := Topo.v7x

variable {F : FTy → Type} [FloatOps F]
-- ==== Proof.Gather.lean ====
module

public import Mathlib.Algebra.Order.Ring.Nat

/-!
A window gathered over the four blocks of one batch entry: it starts afresh at every fourth grid point and is carried on from the
point before at the others.
-/

@[expose] public section

namespace Cert.Gather

variable {α : Type} {N : ℕ}

/-- What the window holds at grid point `n`: `first` at a multiple of four, otherwise `next` of what it held at the point before. -/
def gather (first : Fin N → α) (next : Fin N → α → α) : (n : ℕ) → n < N → α
  | 0, h => first ⟨0, h⟩
  | n + 1, h => if (n + 1) % 4 = 0 then first ⟨n + 1, h⟩ else next ⟨n + 1, h⟩ (gather first next n (Nat.lt_of_succ_lt h))

/-- At a multiple of four the window starts afresh. -/
theorem gather_first (first : Fin N → α) (next : Fin N → α → α) (t : Fin N) (h : t.val % 4 = 0) :
    gather first next t.val t.isLt = first t := by
  obtain ⟨n, hn⟩ := t
  cases n with
  | zero => rfl
  | succ n => exact if_pos h

/-- At any other point it is carried on. -/
theorem gather_next (first : Fin N → α) (next : Fin N → α → α) (t : Fin N) (h : ¬ t.val % 4 = 0) :
    gather first next t.val t.isLt = next t (gather first next (t.val - 1) (Nat.lt_of_le_of_lt (Nat.sub_le _ _) t.isLt)) := by
  obtain ⟨n, hn⟩ := t
  cases n with
  | zero => exact absurd rfl h
  | succ n => exact if_neg h

end Cert.Gather

end
-- ==== Proof.RunThree.lean ====
/- The run of a program whose main function is three pipelined regions, each after a straight line of host operations.
   Stated for any configuration of that shape, so that both programs of the certificate use it: every unscoped buffer of the final
   state is read as what the three regions leave, one after another. -/
module

public import Idealize.ShloMosaic.Lib.Pipeline.FrameTail
public import Idealize.ShloMosaic.Lib.Pipeline.RegionArraysS

@[expose] public section

noncomputable section

namespace Cert.RunThree

open Idealize.ShloMosaic Idealize.ShloMosaic.Pipeline Idealize.ShloMosaic.TcCoe
open Idealize.SL Idealize.SL.RA Idealize.SL.BI Idealize.SL.Sem Idealize.SL.ProofMode
open Idealize.ShloMosaic.Rounds
open scoped Idealize.SL.BI
open Idealize.SL.BI.BIBase Idealize.SL.BI.Laws

variable {nD : Nat} {τ : Topo} {sig : RefSig} {Val : EltTy → Type} [∀ e, Nonempty (Val e)]
variable {Λ₀ : Idealize.SL.Sem.Labels}

open Classical in
/-- One index is assigned at every cell of a TensorCore, none elsewhere. -/
def lvIx (g : GSem nD τ sig) : Finset Unit := if g.1.2 = .tc then {()} else ∅

variable (cfgs : Fin 3 → Cfg sig Λ₀)
  (dats : (p : Fin 3) → (c : Dev nD) → Dat τ Val Unit ℕ (UR sig nD τ) ℕ (cfgs p) c)
  (kit : ∀ p, LaunchFacts (nD := nD) (τ := τ) cfgs p)
  (defs₀ : Defs nD τ sig Val Λ₀) (𝒱₀ : Variants)

/-- The pipelines with no table. -/
abbrev pcs (p : Fin 3) : PCfg sig Λ₀ Val := (cfgs p).toPCfg (Val := Val)
/-- Nothing is to be admitted of a pipeline with no table. -/
abbrev adm (p : Fin 3) : (pcs (Val := Val) cfgs p).Adm := (cfgs p).toPCfg_adm

omit [∀ e, Nonempty (Val e)] in
/-- The waits of a region happen at assigned cells, and nothing is owed above them. -/
theorem cut (p : Fin 3) : LevelCut (nD := nD) (τ := τ) (pcs (Val := Val) cfgs) (adm cfgs) () lvIx (fun _ _ => (0 : ℕ)) p 0 fun _ => 0 where
  hι c w s := by unfold lvIx; rw [if_pos rfl]; exact Finset.mem_singleton_self ()
  hιb _ _ _ := le_rfl
  hD _ _ _ h := absurd h (lt_irrefl 0)

set_option backward.isDefEq.respectTransparency.types false in
/-- The record of region `p`: entered with the unscoped buffers at the valuation `W`, left with them at `afterRegion`. -/
def seg (p : Fin 3) (hbody : ∀ c, BodyObligationLoose (dats p c) defs₀ 𝒱₀ () Set.univ)
    (hshare : ∀ c w, (dats p c).share w = fullShare) (howed : ∀ c t, (dats p c).owed t = 0)
    (hrec : ∀ c, (dats p c).recorded 0 = Set.univ)
    (hΦ : ∀ c t, (dats p c).Φ t = ΦA (cfgs p).spec c) (W : Dev nD → Valuation τ sig Val)
    (hA : ∀ c w, (dats p c).A w = W c (Proc.devRef .tc (arrRef (cfgs p).spec w))) :
    RegionSeg (pcs cfgs) (adm cfgs) dats () defs₀ 𝒱₀ lvIx (fun _ _ => (0 : ℕ)) p :=
  RegionSeg.ofHeldIn (pcs cfgs) (adm cfgs) dats () defs₀ 𝒱₀ lvIx (fun _ _ => (0 : ℕ)) p 0 (ucRefs τ sig)
    (fun c => iprop(∃ r, prngReg c r)) (fun c => iprop(∃ r, prngReg c r)) (kit p).toP rfl hbody howed hrec hshare
    (fun c => by
      rw [hΦ]; unfold ΦA
      exact .rfl)
    (fun c => by
      rw [hΦ]; unfold ΦA
      exact .rfl)
    (fun _ => 0) (cut cfgs p) (fun _ => iprop(emp)) W hA

section Run

variable (m : (ℓ : Loc nD τ sig) → Buf Val ℓ) (g : Dev nD → PrngReg)
  (main : Dev nD → Prog (TpuEff nD τ sig Val (Sig Λ₀ (Fin 3) fun p => ((cfgs p).toPCfg (Val := Val)).Adm) .tc) PUnit)
  (ops0 ops1 ops2 : List (HloOp τ sig Val))
  (W : Fin 3 → Dev nD → Valuation τ sig Val)

local notation "𝕄" => MT nD τ sig Unit Val ℕ (UR sig nD τ) ℕ

/-- What rides beside the buffers between two items: the core owing nothing and the generator register. -/
def side (c : Dev nD) : sProp (MT nD τ sig Unit Val ℕ (UR sig nD τ) ℕ) :=
  iprop((∃ Wd, owes (c.tc : Thread nD τ) (0 : CellTallies nD τ sig Unit) Wd) ∗ (∃ r, prngReg c r) ∗ emp)

/-- A region's record is entered from the unscoped buffers at `W`, -/
theorem seg_pre (p : Fin 3) (hbody) (hshare) (howed) (hrec) (hΦ) (V : Dev nD → Valuation τ sig Val) (hA) (c : Dev nD) :
    iprop(StableHlo.held (c.tc : Thread nD τ) (ucRefs τ sig) (V c) ∗ side c)
      ⊢ (seg cfgs dats kit defs₀ 𝒱₀ p hbody hshare howed hrec hΦ V hA).pre c := by
  unfold side
  have h := RegionSeg.ofHeldIn_pre (pcs := pcs cfgs) (a := adm cfgs) (pdats := dats) (ι := ()) (defs₀ := defs₀) (𝒱₀ := 𝒱₀) (L := lvIx) (lv := fun _ _ => (0 : ℕ))
    (p := p) (D := 0) (S := ucRefs τ sig) (X := fun c => iprop(∃ r, prngReg c r)) (Y := fun c => iprop(∃ r, prngReg c r)) (kit := (kit p).toP) (hK := rfl)
    (hbody := hbody) (howed := howed) (hrec := hrec) (hshare := hshare) (hin := fun c => by rw [hΦ]; unfold ΦA; exact .rfl)
    (hout := fun c => by rw [hΦ]; unfold ΦA; exact .rfl) (b := fun _ => 0) (hcut := cut cfgs p) (R := fun _ => iprop(emp)) (W := V) (hW := hA)
    (arrRefs_sub_ucRefs _ (kit p).win.arr_unscoped) c
  exact h

/-- and left with them at `afterRegion`. -/
theorem seg_post (p : Fin 3) (hbody) (hshare) (howed) (hrec) (hΦ) (V : Dev nD → Valuation τ sig Val) (hA) (c : Dev nD) :
    (seg cfgs dats kit defs₀ 𝒱₀ p hbody hshare howed hrec hΦ V hA).post c
      ⊢ iprop(StableHlo.held (c.tc : Thread nD τ) (ucRefs τ sig) (afterRegion (dats p c) (V c)) ∗ side c) := by
  unfold side
  have h := RegionSeg.ofHeldIn_post (pcs := pcs cfgs) (a := adm cfgs) (pdats := dats) (ι := ()) (defs₀ := defs₀) (𝒱₀ := 𝒱₀) (L := lvIx) (lv := fun _ _ => (0 : ℕ))
    (p := p) (D := 0) (S := ucRefs τ sig) (X := fun c => iprop(∃ r, prngReg c r)) (Y := fun c => iprop(∃ r, prngReg c r)) (kit := (kit p).toP) (hK := rfl)
    (hbody := hbody) (howed := howed) (hrec := hrec) (hshare := hshare) (hin := fun c => by rw [hΦ]; unfold ΦA; exact .rfl)
    (hout := fun c => by rw [hΦ]; unfold ΦA; exact .rfl) (b := fun _ => 0) (hcut := cut cfgs p) (R := fun _ => iprop(emp)) (W := V) (hW := hA)
    (arrRefs_sub_ucRefs _ (kit p).win.arr_unscoped) c
  exact h

include kit in
/-- The run over any three region records `reg`, each entered with the unscoped buffers at `W p` and left with them at `W' p`. -/
theorem run_of (W' : Fin 3 → Dev nD → Valuation τ sig Val)
    (h0 : ops0.Forall fun op => op.bufs ⊆ StableHlo.tcRefs τ sig) (h1 : ops1.Forall fun op => op.bufs ⊆ StableHlo.tcRefs τ sig)
    (h2 : ops2.Forall fun op => op.bufs ⊆ StableHlo.tcRefs τ sig)
    (f0 : ∀ op ∈ ops0, op.fresh = ∅) (f1 : ∀ op ∈ ops1, op.fresh = ∅) (f2 : ∀ op ∈ ops2, op.fresh = ∅)
    (hmain : ∀ c, main c = chain [StableHlo.seq ops0, Prog.lift (.customCall (entry 0) ()), StableHlo.seq ops1,
      Prog.lift (.customCall (entry 1) ()), StableHlo.seq ops2, Prog.lift (.customCall (entry 2) ())])
    (reg : (p : Fin 3) → RegionSeg (pcs cfgs) (adm cfgs) dats () defs₀ 𝒱₀ lvIx (fun _ _ => (0 : ℕ)) p)
    (hpre : ∀ p (c : Dev nD), iprop(StableHlo.held (c.tc : Thread nD τ) (ucRefs τ sig) (W p c) ∗ side c) ⊢ (reg p).pre c)
    (hpost : ∀ p (c : Dev nD), (reg p).post c ⊢ iprop(StableHlo.held (c.tc : Thread nD τ) (ucRefs τ sig) (W' p c) ∗ side c))
    (hsem : ∀ sm : SemLoc sig, sm.isScoped .tc = true)
    (hW0 : ∀ c, W 0 c = StableHlo.after ops0 (StableHlo.launchContents m c))
    (hW1 : ∀ c, W 1 c = StableHlo.after ops1 (W' 0 c)) (hW2 : ∀ c, W 2 c = StableHlo.after ops2 (W' 1 c)) :
    θ_run (Pipeline.defs (fun q => Cfg.toPCfg (Val := Val) (cfgs q)) defs₀) (onTc main) (s₀ m g) fun r =>
      (∀ (c : Dev nD) (b : Ref sig .tc), b.isScoped = false →
        r.2.mem ((c.tc : Thread nD τ).loc b) = W' 2 c (Proc.devRef .tc b)) ∧ r.2.sem = fun _ => 0 := by
  classical
  let host (ops : List (HloOp τ sig Val)) (h : ops.Forall fun op => op.bufs ⊆ StableHlo.tcRefs τ sig) (hf : ∀ op ∈ ops, op.fresh = ∅)
      (V : Dev nD → Valuation τ sig Val) : HostSeg (Name := ℕ) (U := UR sig nD τ) (pcs cfgs) defs₀ 𝒱₀ lvIx (fun _ _ => (0 : ℕ)) :=
    HostSeg.ofOps (pcs cfgs) defs₀ 𝒱₀ lvIx (fun _ _ => (0 : ℕ)) (ucRefs τ sig) ops
      (fun op ho => sub_ucRefs op ((List.forall_iff_forall_mem.mp h) op ho)) hf V side
  have e0 (c : Dev nD) := hpre 0 c
  have e1 (c : Dev nD) := hpre 1 c
  have e2 (c : Dev nD) := hpre 2 c
  simp only [hW0] at e0
  simp only [hW1] at e1
  simp only [hW2] at e2
  have x2 (c : Dev nD) : (reg 2).post c ⊢ iprop(StableHlo.held (c.tc : Thread nD τ) (ucRefs τ sig) (W' 2 c)
      ∗ ∃ Wd, owes (c.tc : Thread nD τ) (0 : CellTallies nD τ sig Unit) Wd) := (hpost 2 c).trans (by
        unfold side
        iintro ⟨Hh, HO, -, -⟩
        isplitl [Hh] <;> iassumption)
  refine θ_run_regions_kit_dev_sems (pcs cfgs) (adm cfgs) dats () ((kit 0).toP.cellOf_inj (adm (Val := Val) cfgs)) emb₁ defs₀ 𝒱₀ lvIx (fun _ _ => (0 : ℕ)) m g main
    (fun _ => [.host (host ops0 h0 f0 fun c => StableHlo.launchContents m c), .region (reg 0),
      .host (host ops1 h1 f1 (W' 0)), .region (reg 1), .host (host ops2 h2 f2 (W' 1)), .region (reg 2)])
    (fun c Q => by rw [hmain c, Seg.run_eq_chain]; exact .rfl)
    (fun _ => by simp only [Seg.pipes_host, Seg.pipes_region, Seg.pipes_nil]; decide)
    (O₀ := 0) (hL := fun g hg => if_neg hg)
    (G := fun _ => iprop(emp))
    (u₀ := initOf (cells (pin (pcs (Val := Val) cfgs) (adm cfgs)) ((kit 0).toP.cellOf_inj (adm (Val := Val) cfgs))) (launchToks (pin (pcs (Val := Val) cfgs) (adm cfgs)) ((kit 0).toP.cellOf_inj (adm (Val := Val) cfgs))))
    (hu₀ := ?hu)
    (T₀ := fun c => iprop(StableHlo.held (c.tc : Thread nD τ) (ucRefs τ sig) (StableHlo.launchContents m c) ∗ side c))
    (Tₙ := fun c => StableHlo.held (c.tc : Thread nD τ) (ucRefs τ sig) (W' 2 c))
    (hch := fun c => ⟨.rfl, e0 c, hpost 0 c, e1 c, hpost 1 c, e2 c, x2 c⟩)
    (hinit := ?hi)
    (QY := fun c s => ∀ b ∈ ucRefs τ sig, s.mem ((c.tc : Thread nD τ).1, b) = W' 2 c b)
    (hfin := ?hf)
    (hQ := fun _ h hz => ⟨fun c b hb => h c (Proc.devRef .tc b) (devRef_mem_ucRefs hb), funext fun g => hz g (.inr (hsem g.2))⟩)
  case hu =>
    iintro Hu; imodintro
    isplitl [Hu]
    · unfold ownU
      iexact Hu
    iapply (show (BI.emp : sProp (MT nD τ sig Unit Val ℕ (UR sig nD τ) ℕ)) ⊢ bigSep Finset.univ fun _ : Dev nD => BI.emp from by
      rw [BI.bigSep_emp_const])
    iempintro
  case hi =>
    refine initEach lvIx (fun _ _ => (0 : ℕ)) fun c => ?_
    rw [show unscopedBufs c (fun b => m ((c.tc : Thread nD τ).loc b))
        = StableHlo.held (c.tc : Thread nD τ) (ucRefs τ sig) (StableHlo.launchContents m c)
        from unscopedBufs_held (Ix := Unit) (Name := ℕ) (U := UR sig nD τ) (Lvl := ℕ) c (StableHlo.launchContents m c)]
    unfold side
    iintro ⟨⟨Hh, -, HO, -, Hp, -⟩, -⟩
    imodintro
    isplitl [Hh]; · iexact Hh
    isplitl [HO]; · iexists _; iexact HO
    isplitl [Hp]; · iexists _; iexact Hp
    iempintro
  case hf =>
    intro c s'
    unfold StableHlo.held
    iintro ⟨Hh, HSI⟩
    ihave Hr := (pointsTo_read_all (ucRefs τ sig) (fun b => ((c.tc : Thread nD τ).1, b)) (W' 2 c) s') $$ [Hh HSI]
    · isplitl [Hh] <;> iassumption
    imodintro; iexact Hr

include kit in
/-- Three regions of this class, each after a line of host operations: the run ends with every semaphore at zero, and every unscoped buffer is what
    the last region leaves, entered at `W 2`, where `W 0` is the launch memory after the first line, and each later `W` is what the region before
    leaves after the next line. -/
theorem run
    (h0 : ops0.Forall fun op => op.bufs ⊆ StableHlo.tcRefs τ sig) (h1 : ops1.Forall fun op => op.bufs ⊆ StableHlo.tcRefs τ sig)
    (h2 : ops2.Forall fun op => op.bufs ⊆ StableHlo.tcRefs τ sig)
    (f0 : ∀ op ∈ ops0, op.fresh = ∅) (f1 : ∀ op ∈ ops1, op.fresh = ∅) (f2 : ∀ op ∈ ops2, op.fresh = ∅)
    (hmain : ∀ c, main c = chain [StableHlo.seq ops0, Prog.lift (.customCall (entry 0) ()), StableHlo.seq ops1,
      Prog.lift (.customCall (entry 1) ()), StableHlo.seq ops2, Prog.lift (.customCall (entry 2) ())])
    (hbody : ∀ p c, BodyObligationLoose (dats p c) defs₀ 𝒱₀ () Set.univ)
    (hshare : ∀ p c w, (dats p c).share w = fullShare) (howed : ∀ p c t, (dats p c).owed t = 0)
    (hrec : ∀ p c, (dats p c).recorded 0 = Set.univ)
    (hΦ : ∀ p c t, (dats p c).Φ t = ΦA (cfgs p).spec c)
    (hA : ∀ p c w, (dats p c).A w = W p c (Proc.devRef .tc (arrRef (cfgs p).spec w)))
    (hsem : ∀ sm : SemLoc sig, sm.isScoped .tc = true)
    (hW0 : ∀ c, W 0 c = StableHlo.after ops0 (StableHlo.launchContents m c))
    (hW1 : ∀ c, W 1 c = StableHlo.after ops1 (afterRegion (dats 0 c) (W 0 c)))
    (hW2 : ∀ c, W 2 c = StableHlo.after ops2 (afterRegion (dats 1 c) (W 1 c))) :
    θ_run (Pipeline.defs (fun q => Cfg.toPCfg (Val := Val) (cfgs q)) defs₀) (onTc main) (s₀ m g) fun r =>
      (∀ (c : Dev nD) (b : Ref sig .tc), b.isScoped = false →
        r.2.mem ((c.tc : Thread nD τ).loc b) = afterRegion (dats 2 c) (W 2 c) (Proc.devRef .tc b)) ∧ r.2.sem = fun _ => 0 :=
  run_of cfgs dats kit defs₀ 𝒱₀ m g main ops0 ops1 ops2 W (fun p c => afterRegion (dats p c) (W p c)) h0 h1 h2 f0 f1 f2 hmain
    (fun p => seg cfgs dats kit defs₀ 𝒱₀ p (hbody p) (hshare p) (howed p) (hrec p) (hΦ p) (W p) (hA p))
    (fun p => seg_pre cfgs dats kit defs₀ 𝒱₀ p _ _ _ _ _ _ _) (fun p => seg_post cfgs dats kit defs₀ 𝒱₀ p _ _ _ _ _ _ _) hsem hW0 hW1 hW2

end Run

end Cert.RunThree

end
-- ==== Proof.IStats.lean ====
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import proofs.«01_k».proof.Proof.Gather
public import Idealize.ShloMosaic.Lib.Tactic
public import Idealize.ShloMosaic.Lib.WordCmp
public import Idealize.ShloMosaic.Lib.Pipeline.TableIdle
public import Idealize.ShloMosaic.Lib.Pipeline.FrameBody
public import Idealize.ShloMosaic.Lib.Pipeline.Value
public import Idealize.ShloMosaic.Lib.VecWindow

/-!
The first region: for each batch entry, the four sums over the spatial axis, gathered over the four blocks of that axis.
What one block adds, what the four result windows hold at each grid point, and that the body does just this.
-/

@[expose] public section

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The zero offsets of a whole read or write, in rank two and three. -/
theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 2000000 in
/-- At the first block of a batch entry the body reads its inputs and leaves them as they are, and leaves each result's window at the stated value. -/
theorem tripleA (c : Dev nD) (i : grid0.Coords) (arg2 : Memref sig .tc .vmem S256x512 .bf16) (harg2 : arg2.IsWhole) (arg3 : Memref sig .tc .vmem S256x1 .f32) (harg3 : arg3.IsWhole) (arg4 : Memref sig .tc .vmem S512x256 .bf16) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S1x512x4096 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1 .f32) (harg11 : arg11.IsWhole) (hc0 : k0_cond1 i = 1#1) (hc1 : ¬ k0_cond2 i = 1#1)
    (x0 : Vec F S256x512 .bf16) (x1 : Vec F S256x1 .f32) (x2 : Vec F S512x256 .bf16) (x3 : Vec F S512x1 .f32) (x4 : Vec F S1x512x4096 .f32) (x5 : Vec F S1x512x4096 .f32) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare (k0_pay1 (k0_pay11 x4))
          ∗ owns (c : Thread nD τ) arg9 fullShare (k0_pay2 (k0_pay12 x4))
          ∗ owns (c : Thread nD τ) arg10 fullShare (k0_pay3 (k0_pay13 x5 x0 x1 x2 x3))
          ∗ owns (c : Thread nD τ) arg11 fullShare (k0_pay4 (k0_pay14 x5))) -∗ K ⟨⟩))
    ⊢ wp frame (wpE (defs₀ (F := F)) Variants.none c none) E (cc0_duan_stats i arg2 harg2 arg3 harg3 arg4 harg4 arg5 harg5 arg6 harg6 arg7 harg7 arg8 harg8 arg9 harg9 arg10 harg10 arg11 harg11) K := by
  simp only [cc0_duan_stats_eq_skeleton]; unfold cc0_duan_stats_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    change k0_pay1 (k0_pay11 (View.readAt (Elt F) arg6.view (Rect.unit (s := S1x512x4096) ![0, 0, 0] S1x512x4096.size inb_S1x512x4096_S1x512x4096_0_0_0).toLoadRect (harg6.unread x4))) = _
    simp only [View.readAt_eq_ld, Memref.IsWhole.read_unread, View.ld_unit_zero (S := S1x512x1) zero3, View.ld_unit_zero (S := S1x512x4096) zero3, View.ld_unit_zero (S := S256x1) zero2, View.ld_unit_zero (S := S256x512) zero2, View.ld_unit_zero (S := S512x1) zero2, View.ld_unit_zero (S := S512x256) zero2]
  isplitl [H7]
  · iexists _; isplitr
    swap; · iexact H7
    ipureintro
    refine (View.read_writes_full _ _ _ _ _).trans ?_
    change k0_pay2 (k0_pay12 (View.readAt (Elt F) arg6.view (Rect.unit (s := S1x512x4096) ![0, 0, 0] S1x512x4096.size inb_S1x512x4096_S1x512x4096_0_0_0).toLoadRect (harg6.unread x4))) = _
    simp only [View.readAt_eq_ld, Memref.IsWhole.read_unread, View.ld_unit_zero (S := S1x512x1) zero3, View.ld_unit_zero (S := S1x512x4096) zero3, View.ld_unit_zero (S := S256x1) zero2, View.ld_unit_zero (S := S256x512) zero2, View.ld_unit_zero (S := S512x1) zero2, View.ld_unit_zero (S := S512x256) zero2]
  isplitl [H8]
  · iexists _; isplitr
    swap; · iexact H8
    ipureintro
    refine (View.read_writes_full _ _ _ _ _).trans ?_
    change k0_pay3 (k0_pay13 (View.readAt (Elt F) arg7.view (Rect.unit (s := S1x512x4096) ![0, 0, 0] S1x512x4096.size inb_S1x512x4096_S1x512x4096_0_0_0).toLoadRect (harg7.unread x5)) (View.readAt (Elt F) arg2.view (Rect.unit (s := S256x512) ![0, 0] S256x512.size inb_S256x512_S256x512_0_0).toLoadRect (harg2.unread x0)) (View.readAt (Elt F) arg3.view (Rect.unit (s := S256x1) ![0, 0] S256x1.size inb_S256x1_S256x1_0_0).toLoadRect (harg3.unread x1)) (View.readAt (Elt F) arg4.view (Rect.unit (s := S512x256) ![0, 0] S512x256.size inb_S512x256_S512x256_0_0).toLoadRect (harg4.unread x2)) (View.readAt (Elt F) arg5.view (Rect.unit (s := S512x1) ![0, 0] S512x1.size inb_S512x1_S512x1_0_0).toLoadRect (harg5.unread x3))) = _
    simp only [View.readAt_eq_ld, Memref.IsWhole.read_unread, View.ld_unit_zero (S := S1x512x1) zero3, View.ld_unit_zero (S := S1x512x4096) zero3, View.ld_unit_zero (S := S256x1) zero2, View.ld_unit_zero (S := S256x512) zero2, View.ld_unit_zero (S := S512x1) zero2, View.ld_unit_zero (S := S512x256) zero2]
  · iexists _; isplitr
    swap; · iexact H9
    ipureintro
    refine (View.read_writes_full _ _ _ _ _).trans ?_
    change k0_pay4 (k0_pay14 (View.readAt (Elt F) arg7.view (Rect.unit (s := S1x512x4096) ![0, 0, 0] S1x512x4096.size inb_S1x512x4096_S1x512x4096_0_0_0).toLoadRect (harg7.unread x5))) = _
    simp only [View.readAt_eq_ld, Memref.IsWhole.read_unread, View.ld_unit_zero (S := S1x512x1) zero3, View.ld_unit_zero (S := S1x512x4096) zero3, View.ld_unit_zero (S := S256x1) zero2, View.ld_unit_zero (S := S256x512) zero2, View.ld_unit_zero (S := S512x1) zero2, View.ld_unit_zero (S := S512x256) zero2]

set_option maxHeartbeats 2000000 in
/-- At a later block of a batch entry the body reads its inputs and leaves them as they are, and leaves each result's window at the stated value. -/
theorem tripleB (c : Dev nD) (i : grid0.Coords) (arg2 : Memref sig .tc .vmem S256x512 .bf16) (harg2 : arg2.IsWhole) (arg3 : Memref sig .tc .vmem S256x1 .f32) (harg3 : arg3.IsWhole) (arg4 : Memref sig .tc .vmem S512x256 .bf16) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S1x512x4096 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1 .f32) (harg11 : arg11.IsWhole) (hc0 : ¬ k0_cond1 i = 1#1) (hc1 : k0_cond2 i = 1#1)
    (x0 : Vec F S256x512 .bf16) (x1 : Vec F S256x1 .f32) (x2 : Vec F S512x256 .bf16) (x3 : Vec F S512x1 .f32) (x4 : Vec F S1x512x4096 .f32) (x5 : Vec F S1x512x4096 .f32) (xo6 : Vec F S1x512x1 .f32) (xo7 : Vec F S1x512x1 .f32) (xo8 : Vec F S1x512x1 .f32) (xo9 : Vec F S1x512x1 .f32) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare xo6
      ∗ owns (c : Thread nD τ) arg9 fullShare xo7
      ∗ owns (c : Thread nD τ) arg10 fullShare xo8
      ∗ owns (c : Thread nD τ) arg11 fullShare xo9
      ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare (k0_pay5 (k0_pay11 x4) xo6)
          ∗ owns (c : Thread nD τ) arg9 fullShare (k0_pay6 (k0_pay12 x4) xo7)
          ∗ owns (c : Thread nD τ) arg10 fullShare (k0_pay7 (k0_pay13 x5 x0 x1 x2 x3) xo8)
          ∗ owns (c : Thread nD τ) arg11 fullShare (k0_pay8 (k0_pay14 x5) xo9)) -∗ K ⟨⟩))
    ⊢ wp frame (wpE (defs₀ (F := F)) Variants.none c none) E (cc0_duan_stats i arg2 harg2 arg3 harg3 arg4 harg4 arg5 harg5 arg6 harg6 arg7 harg7 arg8 harg8 arg9 harg9 arg10 harg10 arg11 harg11) K := by
  simp only [cc0_duan_stats_eq_skeleton]; unfold cc0_duan_stats_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    change k0_pay5 (k0_pay11 (View.readAt (Elt F) arg6.view (Rect.unit (s := S1x512x4096) ![0, 0, 0] S1x512x4096.size inb_S1x512x4096_S1x512x4096_0_0_0).toLoadRect (harg6.unread x4))) (View.readAt (Elt F) arg8.view (Rect.unit (s := S1x512x1) ![0, 0, 0] S1x512x1.size inb_S1x512x1_S1x512x1_0_0_0).toLoadRect (harg8.unread xo6)) = _
    simp only [View.readAt_eq_ld, Memref.IsWhole.read_unread, View.ld_unit_zero (S := S1x512x1) zero3, View.ld_unit_zero (S := S1x512x4096) zero3, View.ld_unit_zero (S := S256x1) zero2, View.ld_unit_zero (S := S256x512) zero2, View.ld_unit_zero (S := S512x1) zero2, View.ld_unit_zero (S := S512x256) zero2]
  isplitl [H7]
  · iexists _; isplitr
    swap; · iexact H7
    ipureintro
    refine (View.read_writes_full _ _ _ _ _).trans ?_
    change k0_pay6 (k0_pay12 (View.readAt (Elt F) arg6.view (Rect.unit (s := S1x512x4096) ![0, 0, 0] S1x512x4096.size inb_S1x512x4096_S1x512x4096_0_0_0).toLoadRect (harg6.unread x4))) (View.readAt (Elt F) arg9.view (Rect.unit (s := S1x512x1) ![0, 0, 0] S1x512x1.size inb_S1x512x1_S1x512x1_0_0_0).toLoadRect (harg9.unread xo7)) = _
    simp only [View.readAt_eq_ld, Memref.IsWhole.read_unread, View.ld_unit_zero (S := S1x512x1) zero3, View.ld_unit_zero (S := S1x512x4096) zero3, View.ld_unit_zero (S := S256x1) zero2, View.ld_unit_zero (S := S256x512) zero2, View.ld_unit_zero (S := S512x1) zero2, View.ld_unit_zero (S := S512x256) zero2]
  isplitl [H8]
  · iexists _; isplitr
    swap; · iexact H8
    ipureintro
    refine (View.read_writes_full _ _ _ _ _).trans ?_
    change k0_pay7 (k0_pay13 (View.readAt (Elt F) arg7.view (Rect.unit (s := S1x512x4096) ![0, 0, 0] S1x512x4096.size inb_S1x512x4096_S1x512x4096_0_0_0).toLoadRect (harg7.unread x5)) (View.readAt (Elt F) arg2.view (Rect.unit (s := S256x512) ![0, 0] S256x512.size inb_S256x512_S256x512_0_0).toLoadRect (harg2.unread x0)) (View.readAt (Elt F) arg3.view (Rect.unit (s := S256x1) ![0, 0] S256x1.size inb_S256x1_S256x1_0_0).toLoadRect (harg3.unread x1)) (View.readAt (Elt F) arg4.view (Rect.unit (s := S512x256) ![0, 0] S512x256.size inb_S512x256_S512x256_0_0).toLoadRect (harg4.unread x2)) (View.readAt (Elt F) arg5.view (Rect.unit (s := S512x1) ![0, 0] S512x1.size inb_S512x1_S512x1_0_0).toLoadRect (harg5.unread x3))) (View.readAt (Elt F) arg10.view (Rect.unit (s := S1x512x1) ![0, 0, 0] S1x512x1.size inb_S1x512x1_S1x512x1_0_0_0).toLoadRect (harg10.unread xo8)) = _
    simp only [View.readAt_eq_ld, Memref.IsWhole.read_unread, View.ld_unit_zero (S := S1x512x1) zero3, View.ld_unit_zero (S := S1x512x4096) zero3, View.ld_unit_zero (S := S256x1) zero2, View.ld_unit_zero (S := S256x512) zero2, View.ld_unit_zero (S := S512x1) zero2, View.ld_unit_zero (S := S512x256) zero2]
  · iexists _; isplitr
    swap; · iexact H9
    ipureintro
    refine (View.read_writes_full _ _ _ _ _).trans ?_
    change k0_pay8 (k0_pay14 (View.readAt (Elt F) arg7.view (Rect.unit (s := S1x512x4096) ![0, 0, 0] S1x512x4096.size inb_S1x512x4096_S1x512x4096_0_0_0).toLoadRect (harg7.unread x5))) (View.readAt (Elt F) arg11.view (Rect.unit (s := S1x512x1) ![0, 0, 0] S1x512x1.size inb_S1x512x1_S1x512x1_0_0_0).toLoadRect (harg11.unread xo9)) = _
    simp only [View.readAt_eq_ld, Memref.IsWhole.read_unread, View.ld_unit_zero (S := S1x512x1) zero3, View.ld_unit_zero (S := S1x512x4096) zero3, View.ld_unit_zero (S := S256x1) zero2, View.ld_unit_zero (S := S256x512) zero2, View.ld_unit_zero (S := S512x1) zero2, View.ld_unit_zero (S := S512x256) zero2]

/-! ## What the windows hold -/

variable (V : Dev nD → Valuation τ sig (Elt F))

/-- The block of window `w`'s array that grid point `t` sees, the arrays being as they are when the region is entered. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What result window 6 holds after grid point `n`. -/
def out6 (c : Dev nD) (n : ℕ) (h : n < cfg0.N) : Vec F S1x512x1 .f32 :=
  Gather.gather (N := cfg0.N) (fun t => k0_pay1 (k0_pay11 (iblk V c 4 t))) (fun t p => k0_pay5 (k0_pay11 (iblk V c 4 t)) p) n h

/-- What result window 7 holds after grid point `n`. -/
def out7 (c : Dev nD) (n : ℕ) (h : n < cfg0.N) : Vec F S1x512x1 .f32 :=
  Gather.gather (N := cfg0.N) (fun t => k0_pay2 (k0_pay12 (iblk V c 4 t))) (fun t p => k0_pay6 (k0_pay12 (iblk V c 4 t)) p) n h

/-- What result window 8 holds after grid point `n`. -/
def out8 (c : Dev nD) (n : ℕ) (h : n < cfg0.N) : Vec F S1x512x1 .f32 :=
  Gather.gather (N := cfg0.N) (fun t => k0_pay3 (k0_pay13 (iblk V c 5 t) (iblk V c 0 t) (iblk V c 1 t) (iblk V c 2 t) (iblk V c 3 t))) (fun t p => k0_pay7 (k0_pay13 (iblk V c 5 t) (iblk V c 0 t) (iblk V c 1 t) (iblk V c 2 t) (iblk V c 3 t)) p) n h

/-- What result window 9 holds after grid point `n`. -/
def out9 (c : Dev nD) (n : ℕ) (h : n < cfg0.N) : Vec F S1x512x1 .f32 :=
  Gather.gather (N := cfg0.N) (fun t => k0_pay4 (k0_pay14 (iblk V c 5 t))) (fun t p => k0_pay8 (k0_pay14 (iblk V c 5 t)) p) n h

/-- The region's record: each array as it is at the entry; after the body at `t`, each input window at its block and each result
    window at what is stated of it. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 V c t.val t.isLt
    | ⟨7, _⟩ => out7 V c t.val t.isLt
    | ⟨8, _⟩ => out8 V c t.val t.isLt
    | ⟨9, _⟩ => out9 V c t.val t.isLt
  Φ _ := Pipeline.ΦA spec0 c
  q _ := fullShare
  owed _ := 0

theorem A_eq (c : Dev nD) (w : Fin cfg0.W) : (dat V c).A w = V c (Proc.devRef .tc (Pipeline.arrRef spec0 w)) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = out6 V c t.val t.isLt := by dsimp only [dat]
theorem after_7 (c : Dev nD) (t : Fin cfg0.N) : (dat V c).after 7 t = out7 V c t.val t.isLt := by dsimp only [dat]
theorem after_8 (c : Dev nD) (t : Fin cfg0.N) : (dat V c).after 8 t = out8 V c t.val t.isLt := by dsimp only [dat]
theorem after_9 (c : Dev nD) (t : Fin cfg0.N) : (dat V c).after 9 t = out9 V c t.val t.isLt := by dsimp only [dat]

/-- Each input window holds its block before the body runs. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- The first condition holds at the multiples of four. -/
theorem cond1_iff : ∀ t : Fin cfg0.N, k0_cond1 (grid0.coords t) = 1#1 ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond1, e0, e1]
    word_cmp : ∀ t : Fin grid0.N, k0_cond1 (grid0.coords t) = 1#1 ↔ t.val % 4 = 0)

/-- The second condition holds at the others. -/
theorem cond2_iff : ∀ t : Fin cfg0.N, k0_cond2 (grid0.coords t) = 1#1 ↔ 1 ≤ t.val % 4 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond2, e0, e1]
    word_cmp : ∀ t : Fin grid0.N, k0_cond2 (grid0.coords t) = 1#1 ↔ 1 ≤ t.val % 4)

/-- Whether a gathered window is fresh before position `n`: at the start, and after each point of remainder three. -/
def freshTab : ℕ → Bool
  | 0 => true
  | n + 1 => (0x88888888 : ℕ).testBit n

theorem out6_first (c : Dev nD) (t : Fin cfg0.N) (h : t.val % 4 = 0) : out6 V c t.val t.isLt = k0_pay1 (k0_pay11 (iblk V c 4 t)) :=
  Gather.gather_first _ _ t h

theorem out6_next (c : Dev nD) (t : Fin cfg0.N) (h : ¬ t.val % 4 = 0) :
    out6 V c t.val t.isLt = k0_pay5 (k0_pay11 (iblk V c 4 t)) (out6 V c (t.val - 1) (Nat.lt_of_le_of_lt (Nat.sub_le _ _) t.isLt)) :=
  Gather.gather_next _ _ t h

/-- The body writes result window 6 at every point. -/
theorem live_6 : ∀ t : Fin cfg0.N, cfg0.idle 6 (grid0.coords t) = false := by decide +kernel

theorem freshStep_6 : ∀ t : Fin cfg0.N,
    freshTab (t.val + 1) = ((cfg0.win 6).flush t || (cfg0.idle 6 (cfg0.grid.coords t) && freshTab t.val)) := by decide +kernel

theorem fresh_6 (t : Fin cfg0.N) : cfg0.fresh 6 t.val = freshTab t.val :=
  Pipeline.Cfg.fresh_tab cfg0 6 freshTab rfl freshStep_6 t.val (Nat.le_of_lt t.isLt)

theorem notFresh_6 : ∀ t : Fin cfg0.N, ¬ t.val % 4 = 0 → cfg0.fresh 6 t.val = false := by
  intro t; rw [fresh_6 t]; revert t; decide +kernel

/-- At a later block of a batch entry, result window 6 enters the body as the point before left it. -/
theorem before_6 (c : Dev nD) (t : Fin cfg0.N) (h : ¬ t.val % 4 = 0) (d) :
    (dat V c).before 6 t d = out6 V c (t.val - 1) (Nat.lt_of_le_of_lt (Nat.sub_le _ _) t.isLt) := by
  rw [Dat.before_out_traj _ 6 rfl (fun _ _ => rfl) (fun t _ hi _ => absurd ((live_6 t).symm.trans hi) Bool.false_ne_true) t.val t rfl d,
    if_neg (by rw [notFresh_6 t h]; exact Bool.false_ne_true)]
  dsimp only [dat]

theorem out7_first (c : Dev nD) (t : Fin cfg0.N) (h : t.val % 4 = 0) : out7 V c t.val t.isLt = k0_pay2 (k0_pay12 (iblk V c 4 t)) :=
  Gather.gather_first _ _ t h

theorem out7_next (c : Dev nD) (t : Fin cfg0.N) (h : ¬ t.val % 4 = 0) :
    out7 V c t.val t.isLt = k0_pay6 (k0_pay12 (iblk V c 4 t)) (out7 V c (t.val - 1) (Nat.lt_of_le_of_lt (Nat.sub_le _ _) t.isLt)) :=
  Gather.gather_next _ _ t h

/-- The body writes result window 7 at every point. -/
theorem live_7 : ∀ t : Fin cfg0.N, cfg0.idle 7 (grid0.coords t) = false := by decide +kernel

theorem freshStep_7 : ∀ t : Fin cfg0.N,
    freshTab (t.val + 1) = ((cfg0.win 7).flush t || (cfg0.idle 7 (cfg0.grid.coords t) && freshTab t.val)) := by decide +kernel

theorem fresh_7 (t : Fin cfg0.N) : cfg0.fresh 7 t.val = freshTab t.val :=
  Pipeline.Cfg.fresh_tab cfg0 7 freshTab rfl freshStep_7 t.val (Nat.le_of_lt t.isLt)

theorem notFresh_7 : ∀ t : Fin cfg0.N, ¬ t.val % 4 = 0 → cfg0.fresh 7 t.val = false := by
  intro t; rw [fresh_7 t]; revert t; decide +kernel

/-- At a later block of a batch entry, result window 7 enters the body as the point before left it. -/
theorem before_7 (c : Dev nD) (t : Fin cfg0.N) (h : ¬ t.val % 4 = 0) (d) :
    (dat V c).before 7 t d = out7 V c (t.val - 1) (Nat.lt_of_le_of_lt (Nat.sub_le _ _) t.isLt) := by
  rw [Dat.before_out_traj _ 7 rfl (fun _ _ => rfl) (fun t _ hi _ => absurd ((live_7 t).symm.trans hi) Bool.false_ne_true) t.val t rfl d,
    if_neg (by rw [notFresh_7 t h]; exact Bool.false_ne_true)]
  dsimp only [dat]

theorem out8_first (c : Dev nD) (t : Fin cfg0.N) (h : t.val % 4 = 0) : out8 V c t.val t.isLt = k0_pay3 (k0_pay13 (iblk V c 5 t) (iblk V c 0 t) (iblk V c 1 t) (iblk V c 2 t) (iblk V c 3 t)) :=
  Gather.gather_first _ _ t h

theorem out8_next (c : Dev nD) (t : Fin cfg0.N) (h : ¬ t.val % 4 = 0) :
    out8 V c t.val t.isLt = k0_pay7 (k0_pay13 (iblk V c 5 t) (iblk V c 0 t) (iblk V c 1 t) (iblk V c 2 t) (iblk V c 3 t)) (out8 V c (t.val - 1) (Nat.lt_of_le_of_lt (Nat.sub_le _ _) t.isLt)) :=
  Gather.gather_next _ _ t h

/-- The body writes result window 8 at every point. -/
theorem live_8 : ∀ t : Fin cfg0.N, cfg0.idle 8 (grid0.coords t) = false := by decide +kernel

theorem freshStep_8 : ∀ t : Fin cfg0.N,
    freshTab (t.val + 1) = ((cfg0.win 8).flush t || (cfg0.idle 8 (cfg0.grid.coords t) && freshTab t.val)) := by decide +kernel

theorem fresh_8 (t : Fin cfg0.N) : cfg0.fresh 8 t.val = freshTab t.val :=
  Pipeline.Cfg.fresh_tab cfg0 8 freshTab rfl freshStep_8 t.val (Nat.le_of_lt t.isLt)

theorem notFresh_8 : ∀ t : Fin cfg0.N, ¬ t.val % 4 = 0 → cfg0.fresh 8 t.val = false := by
  intro t; rw [fresh_8 t]; revert t; decide +kernel

/-- At a later block of a batch entry, result window 8 enters the body as the point before left it. -/
theorem before_8 (c : Dev nD) (t : Fin cfg0.N) (h : ¬ t.val % 4 = 0) (d) :
    (dat V c).before 8 t d = out8 V c (t.val - 1) (Nat.lt_of_le_of_lt (Nat.sub_le _ _) t.isLt) := by
  rw [Dat.before_out_traj _ 8 rfl (fun _ _ => rfl) (fun t _ hi _ => absurd ((live_8 t).symm.trans hi) Bool.false_ne_true) t.val t rfl d,
    if_neg (by rw [notFresh_8 t h]; exact Bool.false_ne_true)]
  dsimp only [dat]

theorem out9_first (c : Dev nD) (t : Fin cfg0.N) (h : t.val % 4 = 0) : out9 V c t.val t.isLt = k0_pay4 (k0_pay14 (iblk V c 5 t)) :=
  Gather.gather_first _ _ t h

theorem out9_next (c : Dev nD) (t : Fin cfg0.N) (h : ¬ t.val % 4 = 0) :
    out9 V c t.val t.isLt = k0_pay8 (k0_pay14 (iblk V c 5 t)) (out9 V c (t.val - 1) (Nat.lt_of_le_of_lt (Nat.sub_le _ _) t.isLt)) :=
  Gather.gather_next _ _ t h

/-- The body writes result window 9 at every point. -/
theorem live_9 : ∀ t : Fin cfg0.N, cfg0.idle 9 (grid0.coords t) = false := by decide +kernel

theorem freshStep_9 : ∀ t : Fin cfg0.N,
    freshTab (t.val + 1) = ((cfg0.win 9).flush t || (cfg0.idle 9 (cfg0.grid.coords t) && freshTab t.val)) := by decide +kernel

theorem fresh_9 (t : Fin cfg0.N) : cfg0.fresh 9 t.val = freshTab t.val :=
  Pipeline.Cfg.fresh_tab cfg0 9 freshTab rfl freshStep_9 t.val (Nat.le_of_lt t.isLt)

theorem notFresh_9 : ∀ t : Fin cfg0.N, ¬ t.val % 4 = 0 → cfg0.fresh 9 t.val = false := by
  intro t; rw [fresh_9 t]; revert t; decide +kernel

/-- At a later block of a batch entry, result window 9 enters the body as the point before left it. -/
theorem before_9 (c : Dev nD) (t : Fin cfg0.N) (h : ¬ t.val % 4 = 0) (d) :
    (dat V c).before 9 t d = out9 V c (t.val - 1) (Nat.lt_of_le_of_lt (Nat.sub_le _ _) t.isLt) := by
  rw [Dat.before_out_traj _ 9 rfl (fun _ _ => rfl) (fun t _ hi _ => absurd ((live_9 t).symm.trans hi) Bool.false_ne_true) t.val t rfl d,
    if_neg (by rw [notFresh_9 t h]; exact Bool.false_ne_true)]
  dsimp only [dat]

/-! ## The body -/

/-- What the body at `t` is handed. -/
def bodyPre (c : Dev nD) (t : Fin cfg0.N) : sProp 𝕄 :=
  iprop((dat V c).Φ t.castSucc ∗ (dat V c).owesAt () t.castSucc
    ∗ (∃ d, owns (c : Thread nD τ) (win0_0.stage (cfg0.slots t 0) : Memref sig .tc .vmem S256x512 .bf16) fullShare ((dat V c).before 0 t d))
    ∗ (∃ d, owns (c : Thread nD τ) (win0_1.stage (cfg0.slots t 1) : Memref sig .tc .vmem S256x1 .f32) fullShare ((dat V c).before 1 t d))
    ∗ (∃ d, owns (c : Thread nD τ) (win0_2.stage (cfg0.slots t 2) : Memref sig .tc .vmem S512x256 .bf16) fullShare ((dat V c).before 2 t d))
    ∗ (∃ d, owns (c : Thread nD τ) (win0_3.stage (cfg0.slots t 3) : Memref sig .tc .vmem S512x1 .f32) fullShare ((dat V c).before 3 t d))
    ∗ (∃ d, owns (c : Thread nD τ) (win0_4.stage (cfg0.slots t 4) : Memref sig .tc .vmem S1x512x4096 .f32) fullShare ((dat V c).before 4 t d))
    ∗ (∃ d, owns (c : Thread nD τ) (win0_5.stage (cfg0.slots t 5) : Memref sig .tc .vmem S1x512x4096 .f32) fullShare ((dat V c).before 5 t d))
    ∗ (∃ d, owns (c : Thread nD τ) (win0_6.stage (cfg0.slots t 6) : Memref sig .tc .vmem S1x512x1 .f32) fullShare ((dat V c).before 6 t d))
    ∗ (∃ d, owns (c : Thread nD τ) (win0_7.stage (cfg0.slots t 7) : Memref sig .tc .vmem S1x512x1 .f32) fullShare ((dat V c).before 7 t d))
    ∗ (∃ d, owns (c : Thread nD τ) (win0_8.stage (cfg0.slots t 8) : Memref sig .tc .vmem S1x512x1 .f32) fullShare ((dat V c).before 8 t d))
    ∗ (∃ d, owns (c : Thread nD τ) (win0_9.stage (cfg0.slots t 9) : Memref sig .tc .vmem S1x512x1 .f32) fullShare ((dat V c).before 9 t d)))

/-- What it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 1600000 in
/-- The body at any grid point takes the windows from what they held before to what is stated after. -/
theorem sound (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl]
  rw [show (dat V c).leavesExact 0 t = owns (c : Thread nD τ) (win0_0.stage (cfg0.slots t 0) : Memref sig .tc .vmem S256x512 .bf16) fullShare ((dat V c).after 0 t) from by
    unfold Dat.leavesExact; rw [show cfg0.idle 0 (grid0.coords t) = false from rfl], after_0]
  rw [show (dat V c).leavesExact 1 t = owns (c : Thread nD τ) (win0_1.stage (cfg0.slots t 1) : Memref sig .tc .vmem S256x1 .f32) fullShare ((dat V c).after 1 t) from by
    unfold Dat.leavesExact; rw [show cfg0.idle 1 (grid0.coords t) = false from rfl], after_1]
  rw [show (dat V c).leavesExact 2 t = owns (c : Thread nD τ) (win0_2.stage (cfg0.slots t 2) : Memref sig .tc .vmem S512x256 .bf16) fullShare ((dat V c).after 2 t) from by
    unfold Dat.leavesExact; rw [show cfg0.idle 2 (grid0.coords t) = false from rfl], after_2]
  rw [show (dat V c).leavesExact 3 t = owns (c : Thread nD τ) (win0_3.stage (cfg0.slots t 3) : Memref sig .tc .vmem S512x1 .f32) fullShare ((dat V c).after 3 t) from by
    unfold Dat.leavesExact; rw [show cfg0.idle 3 (grid0.coords t) = false from rfl], after_3]
  rw [show (dat V c).leavesExact 4 t = owns (c : Thread nD τ) (win0_4.stage (cfg0.slots t 4) : Memref sig .tc .vmem S1x512x4096 .f32) fullShare ((dat V c).after 4 t) from by
    unfold Dat.leavesExact; rw [show cfg0.idle 4 (grid0.coords t) = false from rfl], after_4]
  rw [show (dat V c).leavesExact 5 t = owns (c : Thread nD τ) (win0_5.stage (cfg0.slots t 5) : Memref sig .tc .vmem S1x512x4096 .f32) fullShare ((dat V c).after 5 t) from by
    unfold Dat.leavesExact; rw [show cfg0.idle 5 (grid0.coords t) = false from rfl], after_5]
  rw [show (dat V c).leavesExact 6 t = owns (c : Thread nD τ) (win0_6.stage (cfg0.slots t 6) : Memref sig .tc .vmem S1x512x1 .f32) fullShare ((dat V c).after 6 t) from by
    unfold Dat.leavesExact; rw [show cfg0.idle 6 (grid0.coords t) = false from live_6 t], after_6]
  rw [show (dat V c).leavesExact 7 t = owns (c : Thread nD τ) (win0_7.stage (cfg0.slots t 7) : Memref sig .tc .vmem S1x512x1 .f32) fullShare ((dat V c).after 7 t) from by
    unfold Dat.leavesExact; rw [show cfg0.idle 7 (grid0.coords t) = false from live_7 t], after_7]
  rw [show (dat V c).leavesExact 8 t = owns (c : Thread nD τ) (win0_8.stage (cfg0.slots t 8) : Memref sig .tc .vmem S1x512x1 .f32) fullShare ((dat V c).after 8 t) from by
    unfold Dat.leavesExact; rw [show cfg0.idle 8 (grid0.coords t) = false from live_8 t], after_8]
  rw [show (dat V c).leavesExact 9 t = owns (c : Thread nD τ) (win0_9.stage (cfg0.slots t 9) : Memref sig .tc .vmem S1x512x1 .f32) fullShare ((dat V c).after 9 t) from by
    unfold Dat.leavesExact; rw [show cfg0.idle 9 (grid0.coords t) = false from live_9 t], after_9]
  by_cases h : t.val % 4 = 0
  · rw [out6_first V c t h]
    rw [out7_first V c t h]
    rw [out8_first V c t h]
    rw [out9_first V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (tripleA c (grid0.coords t) _ _ _ _ _ _ _ _ _ _ _ _ _ _ _ _ _ _ _ _ ((cond1_iff t).mpr h) (fun h' => absurd ((cond2_iff t).mp h') (by omega)) (iblk V c 0 t) (iblk V c 1 t) (iblk V c 2 t) (iblk V c 3 t) (iblk V c 4 t) (iblk V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [out6_next V c t h]
    rw [out7_next V c t h]
    rw [out8_next V c t h]
    rw [out9_next V c t h]
    simp only [before_6 V c t h, before_7 V c t h, before_8 V c t h, before_9 V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (tripleB c (grid0.coords t) _ _ _ _ _ _ _ _ _ _ _ _ _ _ _ _ _ _ _ _ (fun h' => h ((cond1_iff t).mp h')) ((cond2_iff t).mpr (by omega)) (iblk V c 0 t) (iblk V c 1 t) (iblk V c 2 t) (iblk V c 3 t) (iblk V c 4 t) (iblk V c 5 t) (out6 V c (t.val - 1) (Nat.lt_of_le_of_lt (Nat.sub_le _ _) t.isLt)) (out7 V c (t.val - 1) (Nat.lt_of_le_of_lt (Nat.sub_le _ _) t.isLt)) (out8 V c (t.val - 1) (Nat.lt_of_le_of_lt (Nat.sub_le _ _) t.isLt)) (out9 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The region's body at a point is the program above. -/
theorem row (t : Fin cfg0.N) : defs₀ (F := F) .tc cfg0.body (cfg0.bodyArgs t (cfg0.slots t)) = bodyAt0 t := by
  unfold defs₀; rw [Defs.onTc_tc]

/-- The obligation of the region's body. -/
theorem obligation (c : Dev nD) : BodyObligation (dat (F := F) V c) (defs₀ (F := F)) Variants.none () Set.univ := fun t => by
  rw [bigSep_W0, bigSep_W0, row]
  exact triple_restated (sound V c t) rfl .rfl fun _ => .rfl

end Cert.KernelIdeal.Stats

end
-- ==== Proof.IScalars.lean ====
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import proofs.«01_k».proof.Proof.Gather
public import Idealize.ShloMosaic.Lib.Tactic
public import Idealize.ShloMosaic.Lib.WordCmp
public import Idealize.ShloMosaic.Lib.Pipeline.TableIdle
public import Idealize.ShloMosaic.Lib.Pipeline.FrameBody
public import Idealize.ShloMosaic.Lib.Pipeline.Value
public import Idealize.ShloMosaic.Lib.VecWindow

/-!
The second region: the one grid point that turns the four sums into the factor and the shift of every channel.
What its two result windows hold, and that the body does just this.
-/

@[expose] public section

set_option maxRecDepth 16384

noncomputable section

namespace Cert.KernelIdeal.Scalars

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The zero offsets of a whole read or write, in rank two and three. -/
theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 2000000 in
/-- At its one grid point the body reads its inputs and leaves them as they are, and leaves each result's window at the stated value. -/
theorem tripleA (c : Dev nD) (i : grid1.Coords) (arg1 : Memref sig .tc .vmem S8x512 .f32) (harg1 : arg1.IsWhole) (arg2 : Memref sig .tc .vmem S8x512 .f32) (harg2 : arg2.IsWhole) (arg3 : Memref sig .tc .vmem S8x512 .f32) (harg3 : arg3.IsWhole) (arg4 : Memref sig .tc .vmem S8x512 .f32) (harg4 : arg4.IsWhole) (arg5 : Memref sig .tc .vmem S256x512 .bf16) (harg5 : arg5.IsWhole) (arg6 : Memref sig .tc .vmem S1x256 .f32) (harg6 : arg6.IsWhole) (arg7 : Memref sig .tc .vmem S1024x256 .bf16) (harg7 : arg7.IsWhole) (arg8 : Memref sig .tc .vmem S1x1024 .f32) (harg8 : arg8.IsWhole) (arg9 : Memref sig .tc .vmem S8x512 .f32) (harg9 : arg9.IsWhole) (arg10 : Memref sig .tc .vmem S8x512 .f32) (harg10 : arg10.IsWhole)
    (x0 : Vec F S8x512 .f32) (x1 : Vec F S8x512 .f32) (x2 : Vec F S8x512 .f32) (x3 : Vec F S8x512 .f32) (x4 : Vec F S256x512 .bf16) (x5 : Vec F S1x256 .f32) (x6 : Vec F S1024x256 .bf16) (x7 : Vec F S1x1024 .f32) (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ (∃ d, owns (c : Thread nD τ) arg9 fullShare d)
      ∗ (∃ d, owns (c : Thread nD τ) arg10 fullShare d)
      ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare (k1_pay2 (k1_pay8 x0 x1 x2) x3 x4 x5 x6 x7)
          ∗ owns (c : Thread nD τ) arg10 fullShare (k1_pay3 (k1_pay7 x0 x2) (k1_pay8 x0 x1 x2) x3 x4 x5 x6 x7)) -∗ K ⟨⟩))
    ⊢ wp frame (wpE (defs₀ (F := F)) Variants.none c none) E (cc1_duan_scalars i arg1 harg1 arg2 harg2 arg3 harg3 arg4 harg4 arg5 harg5 arg6 harg6 arg7 harg7 arg8 harg8 arg9 harg9 arg10 harg10) K := by
  simp only [cc1_duan_scalars_eq_skeleton]; unfold cc1_duan_scalars_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    refine (View.read_writes_full _ _ _ _ _).trans ?_
    change k1_pay2 (k1_pay8 (View.readAt (Elt F) arg1.view (Rect.unit (s := S8x512) ![0, 0] S8x512.size inb_S8x512_S8x512_0_0).toLoadRect (harg1.unread x0)) (View.readAt (Elt F) arg2.view (Rect.unit (s := S8x512) ![0, 0] S8x512.size inb_S8x512_S8x512_0_0).toLoadRect (harg2.unread x1)) (View.readAt (Elt F) arg3.view (Rect.unit (s := S8x512) ![0, 0] S8x512.size inb_S8x512_S8x512_0_0).toLoadRect (harg3.unread x2))) (View.readAt (Elt F) arg4.view (Rect.unit (s := S8x512) ![0, 0] S8x512.size inb_S8x512_S8x512_0_0).toLoadRect (harg4.unread x3)) (View.readAt (Elt F) arg5.view (Rect.unit (s := S256x512) ![0, 0] S256x512.size inb_S256x512_S256x512_0_0).toLoadRect (harg5.unread x4)) (View.readAt (Elt F) arg6.view (Rect.unit (s := S1x256) ![0, 0] S1x256.size inb_S1x256_S1x256_0_0).toLoadRect (harg6.unread x5)) (View.readAt (Elt F) arg7.view (Rect.unit (s := S1024x256) ![0, 0] S1024x256.size inb_S1024x256_S1024x256_0_0).toLoadRect (harg7.unread x6)) (View.readAt (Elt F) arg8.view (Rect.unit (s := S1x1024) ![0, 0] S1x1024.size inb_S1x1024_S1x1024_0_0).toLoadRect (harg8.unread x7)) = _
    simp only [View.readAt_eq_ld, Memref.IsWhole.read_unread, View.ld_unit_zero (S := S1024x256) zero2, View.ld_unit_zero (S := S1x1024) zero2, View.ld_unit_zero (S := S1x256) zero2, View.ld_unit_zero (S := S256x512) zero2, View.ld_unit_zero (S := S8x512) zero2]
  · iexists _; isplitr
    swap; · iexact H9
    ipureintro
    refine (View.read_writes_full _ _ _ _ _).trans ?_
    change k1_pay3 (k1_pay7 (View.readAt (Elt F) arg1.view (Rect.unit (s := S8x512) ![0, 0] S8x512.size inb_S8x512_S8x512_0_0).toLoadRect (harg1.unread x0)) (View.readAt (Elt F) arg3.view (Rect.unit (s := S8x512) ![0, 0] S8x512.size inb_S8x512_S8x512_0_0).toLoadRect (harg3.unread x2))) (k1_pay8 (View.readAt (Elt F) arg1.view (Rect.unit (s := S8x512) ![0, 0] S8x512.size inb_S8x512_S8x512_0_0).toLoadRect (harg1.unread x0)) (View.readAt (Elt F) arg2.view (Rect.unit (s := S8x512) ![0, 0] S8x512.size inb_S8x512_S8x512_0_0).toLoadRect (harg2.unread x1)) (View.readAt (Elt F) arg3.view (Rect.unit (s := S8x512) ![0, 0] S8x512.size inb_S8x512_S8x512_0_0).toLoadRect (harg3.unread x2))) (View.readAt (Elt F) arg4.view (Rect.unit (s := S8x512) ![0, 0] S8x512.size inb_S8x512_S8x512_0_0).toLoadRect (harg4.unread x3)) (View.readAt (Elt F) arg5.view (Rect.unit (s := S256x512) ![0, 0] S256x512.size inb_S256x512_S256x512_0_0).toLoadRect (harg5.unread x4)) (View.readAt (Elt F) arg6.view (Rect.unit (s := S1x256) ![0, 0] S1x256.size inb_S1x256_S1x256_0_0).toLoadRect (harg6.unread x5)) (View.readAt (Elt F) arg7.view (Rect.unit (s := S1024x256) ![0, 0] S1024x256.size inb_S1024x256_S1024x256_0_0).toLoadRect (harg7.unread x6)) (View.readAt (Elt F) arg8.view (Rect.unit (s := S1x1024) ![0, 0] S1x1024.size inb_S1x1024_S1x1024_0_0).toLoadRect (harg8.unread x7)) = _
    simp only [View.readAt_eq_ld, Memref.IsWhole.read_unread, View.ld_unit_zero (S := S1024x256) zero2, View.ld_unit_zero (S := S1x1024) zero2, View.ld_unit_zero (S := S1x256) zero2, View.ld_unit_zero (S := S256x512) zero2, View.ld_unit_zero (S := S8x512) zero2]

/-! ## What the windows hold -/

variable (V : Dev nD → Valuation τ sig (Elt F))

/-- The block of window `w`'s array that grid point `t` sees, the arrays being as they are when the region is entered. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- What result window 8 holds after grid point `t`. -/
def out8 (c : Dev nD) (t : Fin cfg1.N) : Vec F S8x512 .f32 := k1_pay2 (k1_pay8 (iblk V c 0 t) (iblk V c 1 t) (iblk V c 2 t)) (iblk V c 3 t) (iblk V c 4 t) (iblk V c 5 t) (iblk V c 6 t) (iblk V c 7 t)

/-- What result window 9 holds after grid point `t`. -/
def out9 (c : Dev nD) (t : Fin cfg1.N) : Vec F S8x512 .f32 := k1_pay3 (k1_pay7 (iblk V c 0 t) (iblk V c 2 t)) (k1_pay8 (iblk V c 0 t) (iblk V c 1 t) (iblk V c 2 t)) (iblk V c 3 t) (iblk V c 4 t) (iblk V c 5 t) (iblk V c 6 t) (iblk V c 7 t)

/-- The region's record: each array as it is at the entry; after the body at `t`, each input window at its block and each result
    window at what is stated of it. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out8 V c t
    | ⟨9, _⟩ => out9 V c t
  Φ _ := Pipeline.ΦA spec1 c
  q _ := fullShare
  owed _ := 0

theorem A_eq (c : Dev nD) (w : Fin cfg1.W) : (dat V c).A w = V c (Proc.devRef .tc (Pipeline.arrRef spec1 w)) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = out8 V c t := by dsimp only [dat]
theorem after_9 (c : Dev nD) (t : Fin cfg1.N) : (dat V c).after 9 t = out9 V c t := by dsimp only [dat]

/-- Each input window holds its block before the body runs. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-! ## The body -/

/-- What the body at `t` is handed. -/
def bodyPre (c : Dev nD) (t : Fin cfg1.N) : sProp 𝕄 :=
  iprop((dat V c).Φ t.castSucc ∗ (dat V c).owesAt () t.castSucc
    ∗ (∃ d, owns (c : Thread nD τ) (win1_0.stage (cfg1.slots t 0) : Memref sig .tc .vmem S8x512 .f32) fullShare ((dat V c).before 0 t d))
    ∗ (∃ d, owns (c : Thread nD τ) (win1_1.stage (cfg1.slots t 1) : Memref sig .tc .vmem S8x512 .f32) fullShare ((dat V c).before 1 t d))
    ∗ (∃ d, owns (c : Thread nD τ) (win1_2.stage (cfg1.slots t 2) : Memref sig .tc .vmem S8x512 .f32) fullShare ((dat V c).before 2 t d))
    ∗ (∃ d, owns (c : Thread nD τ) (win1_3.stage (cfg1.slots t 3) : Memref sig .tc .vmem S8x512 .f32) fullShare ((dat V c).before 3 t d))
    ∗ (∃ d, owns (c : Thread nD τ) (win1_4.stage (cfg1.slots t 4) : Memref sig .tc .vmem S256x512 .bf16) fullShare ((dat V c).before 4 t d))
    ∗ (∃ d, owns (c : Thread nD τ) (win1_5.stage (cfg1.slots t 5) : Memref sig .tc .vmem S1x256 .f32) fullShare ((dat V c).before 5 t d))
    ∗ (∃ d, owns (c : Thread nD τ) (win1_6.stage (cfg1.slots t 6) : Memref sig .tc .vmem S1024x256 .bf16) fullShare ((dat V c).before 6 t d))
    ∗ (∃ d, owns (c : Thread nD τ) (win1_7.stage (cfg1.slots t 7) : Memref sig .tc .vmem S1x1024 .f32) fullShare ((dat V c).before 7 t d))
    ∗ (∃ d, owns (c : Thread nD τ) (win1_8.stage (cfg1.slots t 8) : Memref sig .tc .vmem S8x512 .f32) fullShare ((dat V c).before 8 t d))
    ∗ (∃ d, owns (c : Thread nD τ) (win1_9.stage (cfg1.slots t 9) : Memref sig .tc .vmem S8x512 .f32) fullShare ((dat V c).before 9 t d)))

/-- What it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 1600000 in
/-- The body at any grid point takes the windows from what they held before to what is stated after. -/
theorem sound (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl]
  rw [show (dat V c).leavesExact 0 t = owns (c : Thread nD τ) (win1_0.stage (cfg1.slots t 0) : Memref sig .tc .vmem S8x512 .f32) fullShare ((dat V c).after 0 t) from by
    unfold Dat.leavesExact; rw [show cfg1.idle 0 (grid1.coords t) = false from rfl], after_0]
  rw [show (dat V c).leavesExact 1 t = owns (c : Thread nD τ) (win1_1.stage (cfg1.slots t 1) : Memref sig .tc .vmem S8x512 .f32) fullShare ((dat V c).after 1 t) from by
    unfold Dat.leavesExact; rw [show cfg1.idle 1 (grid1.coords t) = false from rfl], after_1]
  rw [show (dat V c).leavesExact 2 t = owns (c : Thread nD τ) (win1_2.stage (cfg1.slots t 2) : Memref sig .tc .vmem S8x512 .f32) fullShare ((dat V c).after 2 t) from by
    unfold Dat.leavesExact; rw [show cfg1.idle 2 (grid1.coords t) = false from rfl], after_2]
  rw [show (dat V c).leavesExact 3 t = owns (c : Thread nD τ) (win1_3.stage (cfg1.slots t 3) : Memref sig .tc .vmem S8x512 .f32) fullShare ((dat V c).after 3 t) from by
    unfold Dat.leavesExact; rw [show cfg1.idle 3 (grid1.coords t) = false from rfl], after_3]
  rw [show (dat V c).leavesExact 4 t = owns (c : Thread nD τ) (win1_4.stage (cfg1.slots t 4) : Memref sig .tc .vmem S256x512 .bf16) fullShare ((dat V c).after 4 t) from by
    unfold Dat.leavesExact; rw [show cfg1.idle 4 (grid1.coords t) = false from rfl], after_4]
  rw [show (dat V c).leavesExact 5 t = owns (c : Thread nD τ) (win1_5.stage (cfg1.slots t 5) : Memref sig .tc .vmem S1x256 .f32) fullShare ((dat V c).after 5 t) from by
    unfold Dat.leavesExact; rw [show cfg1.idle 5 (grid1.coords t) = false from rfl], after_5]
  rw [show (dat V c).leavesExact 6 t = owns (c : Thread nD τ) (win1_6.stage (cfg1.slots t 6) : Memref sig .tc .vmem S1024x256 .bf16) fullShare ((dat V c).after 6 t) from by
    unfold Dat.leavesExact; rw [show cfg1.idle 6 (grid1.coords t) = false from rfl], after_6]
  rw [show (dat V c).leavesExact 7 t = owns (c : Thread nD τ) (win1_7.stage (cfg1.slots t 7) : Memref sig .tc .vmem S1x1024 .f32) fullShare ((dat V c).after 7 t) from by
    unfold Dat.leavesExact; rw [show cfg1.idle 7 (grid1.coords t) = false from rfl], after_7]
  rw [show (dat V c).leavesExact 8 t = owns (c : Thread nD τ) (win1_8.stage (cfg1.slots t 8) : Memref sig .tc .vmem S8x512 .f32) fullShare ((dat V c).after 8 t) from by
    unfold Dat.leavesExact; rw [show cfg1.idle 8 (grid1.coords t) = false from rfl], after_8]
  rw [show (dat V c).leavesExact 9 t = owns (c : Thread nD τ) (win1_9.stage (cfg1.slots t 9) : Memref sig .tc .vmem S8x512 .f32) fullShare ((dat V c).after 9 t) from by
    unfold Dat.leavesExact; rw [show cfg1.idle 9 (grid1.coords t) = false from rfl], after_9]
  unfold out8
  unfold out9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (tripleA c (grid1.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The region's body at a point is the program above. -/
theorem row (t : Fin cfg1.N) : defs₀ (F := F) .tc cfg1.body (cfg1.bodyArgs t (cfg1.slots t)) = bodyAt1 t := by
  unfold defs₀; rw [Defs.onTc_tc]

/-- The obligation of the region's body. -/
theorem obligation (c : Dev nD) : BodyObligation (dat (F := F) V c) (defs₀ (F := F)) Variants.none () Set.univ := fun t => by
  rw [bigSep_W1, bigSep_W1, row]
  exact triple_restated (sound V c t) rfl .rfl fun _ => .rfl

end Cert.KernelIdeal.Scalars

end
-- ==== Proof.IImp.lean ====
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import proofs.«01_k».proof.Proof.Gather
public import Idealize.ShloMosaic.Lib.Tactic
public import Idealize.ShloMosaic.Lib.WordCmp
public import Idealize.ShloMosaic.Lib.Pipeline.TableIdle
public import Idealize.ShloMosaic.Lib.Pipeline.FrameBody
public import Idealize.ShloMosaic.Lib.Pipeline.Value
public import Idealize.ShloMosaic.Lib.VecWindow

/-!
The third region: factor times block plus shift, and the sum of its magnitudes gathered over the four blocks of the spatial axis.
What the two result windows hold at each grid point, and that the body does just this.
-/

@[expose] public section

set_option maxRecDepth 16384

noncomputable section

namespace Cert.KernelIdeal.Imp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The zero offsets of a whole read or write, in rank two and three. -/
theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 2000000 in
/-- At the first block of a batch entry the body reads its inputs and leaves them as they are, and leaves each result's window at the stated value. -/
theorem tripleA (c : Dev nD) (i : grid2.Coords) (arg2 : Memref sig .tc .vmem S1x512x4096 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x4096 .f32) (harg6 : arg6.IsWhole) (hc0 : k2_cond1 i = 1#1) (hc1 : ¬ k2_cond2 i = 1#1)
    (x0 : Vec F S1x512x4096 .f32) (x1 : Vec F S1x512x1 .f32) (x2 : Vec F S1x512x1 .f32) (E : Set ℕ) (K : PUnit → sProp 𝕄) :
    iprop(owns (c : Thread nD τ) arg2 fullShare x0
      ∗ owns (c : Thread nD τ) arg3 fullShare x1
      ∗ owns (c : Thread nD τ) arg4 fullShare x2
      ∗ (∃ d, owns (c : Thread nD τ) arg5 fullShare d)
      ∗ (∃ d, owns (c : Thread nD τ) arg6 fullShare d)
      ∗ (iprop(owns (c : Thread nD τ) arg2 fullShare x0
          ∗ owns (c : Thread nD τ) arg3 fullShare x1
          ∗ owns (c : Thread nD τ) arg4 fullShare x2
          ∗ owns (c : Thread nD τ) arg5 fullShare (k2_pay4 x1 x0 x2)
          ∗ owns (c : Thread nD τ) arg6 fullShare (k2_pay2 x1 x0 x2)) -∗ K ⟨⟩))
    ⊢ wp frame (wpE (defs₀ (F := F)) Variants.none c none) E (cc2_duan_imp i arg2 harg2 arg3 harg3 arg4 harg4 arg5 harg5 arg6 harg6) K := by
  simp only [cc2_duan_imp_eq_skeleton]; unfold cc2_duan_imp_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    change k2_pay4 (View.readAt (Elt F) arg3.view (Rect.unit (s := S1x512x1) ![0, 0, 0] S1x512x1.size inb_S1x512x1_S1x512x1_0_0_0).toLoadRect (harg3.unread x1)) (View.readAt (Elt F) arg2.view (Rect.unit (s := S1x512x4096) ![0, 0, 0] S1x512x4096.size inb_S1x512x4096_S1x512x4096_0_0_0).toLoadRect (harg2.unread x0)) (View.readAt (Elt F) arg4.view (Rect.unit (s := S1x512x1) ![0, 0, 0] S1x512x1.size inb_S1x512x1_S1x512x1_0_0_0).toLoadRect (harg4.unread x2)) = _
    simp only [View.readAt_eq_ld, Memref.IsWhole.read_unread, View.ld_unit_zero (S := S1x512x1) zero3, View.ld_unit_zero (S := S1x512x4096) zero3]
  · iexists _; isplitr
    swap; · iexact H4
    ipureintro
    refine (View.read_writes_full _ _ _ _ _).trans ?_
    change k2_pay2 (View.readAt (Elt F) arg3.view (Rect.unit (s := S1x512x1) ![0, 0, 0] S1x512x1.size inb_S1x512x1_S1x512x1_0_0_0).toLoadRect (harg3.unread x1)) (View.readAt (Elt F) arg2.view (Rect.unit (s := S1x512x4096) ![0, 0, 0] S1x512x4096.size inb_S1x512x4096_S1x512x4096_0_0_0).toLoadRect (harg2.unread x0)) (View.readAt (Elt F) arg4.view (Rect.unit (s := S1x512x1) ![0, 0, 0] S1x512x1.size inb_S1x512x1_S1x512x1_0_0_0).toLoadRect (harg4.unread x2)) = _
    simp only [View.readAt_eq_ld, Memref.IsWhole.read_unread, View.ld_unit_zero (S := S1x512x1) zero3, View.ld_unit_zero (S := S1x512x4096) zero3]

set_option maxHeartbeats 2000000 in
/-- At a later block of a batch entry the body reads its inputs and leaves them as they are, and leaves each result's window at the stated value. -/
theorem tripleB (c : Dev nD) (i : grid2.Coords) (arg2 : Memref sig .tc .vmem S1x512x4096 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x4096 .f32) (harg6 : arg6.IsWhole) (hc0 : ¬ k2_cond1 i = 1#1) (hc1 : k2_cond2 i = 1#1)
    (x0 : Vec F S1x512x4096 .f32) (x1 : Vec F S1x512x1 .f32) (x2 : Vec F S1x512x1 .f32) (xo3 : Vec F S1x512x1 .f32) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare xo3
      ∗ (∃ d, owns (c : Thread nD τ) arg6 fullShare d)
      ∗ (iprop(owns (c : Thread nD τ) arg2 fullShare x0
          ∗ owns (c : Thread nD τ) arg3 fullShare x1
          ∗ owns (c : Thread nD τ) arg4 fullShare x2
          ∗ owns (c : Thread nD τ) arg5 fullShare (k2_pay5 x1 x0 x2 xo3)
          ∗ owns (c : Thread nD τ) arg6 fullShare (k2_pay2 x1 x0 x2)) -∗ K ⟨⟩))
    ⊢ wp frame (wpE (defs₀ (F := F)) Variants.none c none) E (cc2_duan_imp i arg2 harg2 arg3 harg3 arg4 harg4 arg5 harg5 arg6 harg6) K := by
  simp only [cc2_duan_imp_eq_skeleton]; unfold cc2_duan_imp_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    change k2_pay5 (View.readAt (Elt F) arg3.view (Rect.unit (s := S1x512x1) ![0, 0, 0] S1x512x1.size inb_S1x512x1_S1x512x1_0_0_0).toLoadRect (harg3.unread x1)) (View.readAt (Elt F) arg2.view (Rect.unit (s := S1x512x4096) ![0, 0, 0] S1x512x4096.size inb_S1x512x4096_S1x512x4096_0_0_0).toLoadRect (harg2.unread x0)) (View.readAt (Elt F) arg4.view (Rect.unit (s := S1x512x1) ![0, 0, 0] S1x512x1.size inb_S1x512x1_S1x512x1_0_0_0).toLoadRect (harg4.unread x2)) (View.readAt (Elt F) arg5.view (Rect.unit (s := S1x512x1) ![0, 0, 0] S1x512x1.size inb_S1x512x1_S1x512x1_0_0_0).toLoadRect (harg5.unread xo3)) = _
    simp only [View.readAt_eq_ld, Memref.IsWhole.read_unread, View.ld_unit_zero (S := S1x512x1) zero3, View.ld_unit_zero (S := S1x512x4096) zero3]
  · iexists _; isplitr
    swap; · iexact H4
    ipureintro
    refine (View.read_writes_full _ _ _ _ _).trans ?_
    change k2_pay2 (View.readAt (Elt F) arg3.view (Rect.unit (s := S1x512x1) ![0, 0, 0] S1x512x1.size inb_S1x512x1_S1x512x1_0_0_0).toLoadRect (harg3.unread x1)) (View.readAt (Elt F) arg2.view (Rect.unit (s := S1x512x4096) ![0, 0, 0] S1x512x4096.size inb_S1x512x4096_S1x512x4096_0_0_0).toLoadRect (harg2.unread x0)) (View.readAt (Elt F) arg4.view (Rect.unit (s := S1x512x1) ![0, 0, 0] S1x512x1.size inb_S1x512x1_S1x512x1_0_0_0).toLoadRect (harg4.unread x2)) = _
    simp only [View.readAt_eq_ld, Memref.IsWhole.read_unread, View.ld_unit_zero (S := S1x512x1) zero3, View.ld_unit_zero (S := S1x512x4096) zero3]

/-! ## What the windows hold -/

variable (V : Dev nD → Valuation τ sig (Elt F))

/-- The block of window `w`'s array that grid point `t` sees, the arrays being as they are when the region is entered. -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- What result window 3 holds after grid point `n`. -/
def out3 (c : Dev nD) (n : ℕ) (h : n < cfg2.N) : Vec F S1x512x1 .f32 :=
  Gather.gather (N := cfg2.N) (fun t => k2_pay4 (iblk V c 1 t) (iblk V c 0 t) (iblk V c 2 t)) (fun t p => k2_pay5 (iblk V c 1 t) (iblk V c 0 t) (iblk V c 2 t) p) n h

/-- What result window 4 holds after grid point `t`. -/
def out4 (c : Dev nD) (t : Fin cfg2.N) : Vec F S1x512x4096 .f32 := k2_pay2 (iblk V c 1 t) (iblk V c 0 t) (iblk V c 2 t)

/-- The region's record: each array as it is at the entry; after the body at `t`, each input window at its block and each result
    window at what is stated of it. -/
def dat (c : Dev nD) : Dat τ (Elt F) Unit ℕ (UR sig nD τ) ℕ cfg2 c where
  A w := V c (Proc.devRef .tc (Pipeline.arrRef spec2 w))
  after w t := match w with
    | ⟨0, _⟩ => iblk V c 0 t
    | ⟨1, _⟩ => iblk V c 1 t
    | ⟨2, _⟩ => iblk V c 2 t
    | ⟨3, _⟩ => out3 V c t.val t.isLt
    | ⟨4, _⟩ => out4 V c t
  Φ _ := Pipeline.ΦA spec2 c
  q _ := fullShare
  owed _ := 0

theorem A_eq (c : Dev nD) (w : Fin cfg2.W) : (dat V c).A w = V c (Proc.devRef .tc (Pipeline.arrRef spec2 w)) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out3 V c t.val t.isLt := by dsimp only [dat]
theorem after_4 (c : Dev nD) (t : Fin cfg2.N) : (dat V c).after 4 t = out4 V c t := by dsimp only [dat]

/-- Each input window holds its block before the body runs. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The first condition holds at the multiples of four. -/
theorem cond1_iff : ∀ t : Fin cfg2.N, k2_cond1 (grid2.coords t) = 1#1 ↔ t.val % 4 = 0 :=
  (fun t => by
    have ht : t.val < 32 := Nat.lt_of_lt_of_eq t.isLt N_2
    have e0 : (grid2.coords t 0).val = t.val / 4 % 8 := Pipeline.Grid.coords_val t 0 (by decide) rfl
    have e1 : (grid2.coords t 1).val = t.val / 1 % 4 := Pipeline.Grid.coords_val t 1 (by decide) rfl
    simp only [k2_cond1, e0, e1]
    word_cmp : ∀ t : Fin grid2.N, k2_cond1 (grid2.coords t) = 1#1 ↔ t.val % 4 = 0)

/-- The second condition holds at the others. -/
theorem cond2_iff : ∀ t : Fin cfg2.N, k2_cond2 (grid2.coords t) = 1#1 ↔ 1 ≤ t.val % 4 :=
  (fun t => by
    have ht : t.val < 32 := Nat.lt_of_lt_of_eq t.isLt N_2
    have e0 : (grid2.coords t 0).val = t.val / 4 % 8 := Pipeline.Grid.coords_val t 0 (by decide) rfl
    have e1 : (grid2.coords t 1).val = t.val / 1 % 4 := Pipeline.Grid.coords_val t 1 (by decide) rfl
    simp only [k2_cond2, e0, e1]
    word_cmp : ∀ t : Fin grid2.N, k2_cond2 (grid2.coords t) = 1#1 ↔ 1 ≤ t.val % 4)

/-- Whether a gathered window is fresh before position `n`: at the start, and after each point of remainder three. -/
def freshTab : ℕ → Bool
  | 0 => true
  | n + 1 => (0x88888888 : ℕ).testBit n

theorem out3_first (c : Dev nD) (t : Fin cfg2.N) (h : t.val % 4 = 0) : out3 V c t.val t.isLt = k2_pay4 (iblk V c 1 t) (iblk V c 0 t) (iblk V c 2 t) :=
  Gather.gather_first _ _ t h

theorem out3_next (c : Dev nD) (t : Fin cfg2.N) (h : ¬ t.val % 4 = 0) :
    out3 V c t.val t.isLt = k2_pay5 (iblk V c 1 t) (iblk V c 0 t) (iblk V c 2 t) (out3 V c (t.val - 1) (Nat.lt_of_le_of_lt (Nat.sub_le _ _) t.isLt)) :=
  Gather.gather_next _ _ t h

/-- The body writes result window 3 at every point. -/
theorem live_3 : ∀ t : Fin cfg2.N, cfg2.idle 3 (grid2.coords t) = false := by decide +kernel

theorem freshStep_3 : ∀ t : Fin cfg2.N,
    freshTab (t.val + 1) = ((cfg2.win 3).flush t || (cfg2.idle 3 (cfg2.grid.coords t) && freshTab t.val)) := by decide +kernel

theorem fresh_3 (t : Fin cfg2.N) : cfg2.fresh 3 t.val = freshTab t.val :=
  Pipeline.Cfg.fresh_tab cfg2 3 freshTab rfl freshStep_3 t.val (Nat.le_of_lt t.isLt)

theorem notFresh_3 : ∀ t : Fin cfg2.N, ¬ t.val % 4 = 0 → cfg2.fresh 3 t.val = false := by
  intro t; rw [fresh_3 t]; revert t; decide +kernel

/-- At a later block of a batch entry, result window 3 enters the body as the point before left it. -/
theorem before_3 (c : Dev nD) (t : Fin cfg2.N) (h : ¬ t.val % 4 = 0) (d) :
    (dat V c).before 3 t d = out3 V c (t.val - 1) (Nat.lt_of_le_of_lt (Nat.sub_le _ _) t.isLt) := by
  rw [Dat.before_out_traj _ 3 rfl (fun _ _ => rfl) (fun t _ hi _ => absurd ((live_3 t).symm.trans hi) Bool.false_ne_true) t.val t rfl d,
    if_neg (by rw [notFresh_3 t h]; exact Bool.false_ne_true)]
  dsimp only [dat]

/-! ## The body -/

/-- What the body at `t` is handed. -/
def bodyPre (c : Dev nD) (t : Fin cfg2.N) : sProp 𝕄 :=
  iprop((dat V c).Φ t.castSucc ∗ (dat V c).owesAt () t.castSucc
    ∗ (∃ d, owns (c : Thread nD τ) (win2_0.stage (cfg2.slots t 0) : Memref sig .tc .vmem S1x512x4096 .f32) fullShare ((dat V c).before 0 t d))
    ∗ (∃ d, owns (c : Thread nD τ) (win2_1.stage (cfg2.slots t 1) : Memref sig .tc .vmem S1x512x1 .f32) fullShare ((dat V c).before 1 t d))
    ∗ (∃ d, owns (c : Thread nD τ) (win2_2.stage (cfg2.slots t 2) : Memref sig .tc .vmem S1x512x1 .f32) fullShare ((dat V c).before 2 t d))
    ∗ (∃ d, owns (c : Thread nD τ) (win2_3.stage (cfg2.slots t 3) : Memref sig .tc .vmem S1x512x1 .f32) fullShare ((dat V c).before 3 t d))
    ∗ (∃ d, owns (c : Thread nD τ) (win2_4.stage (cfg2.slots t 4) : Memref sig .tc .vmem S1x512x4096 .f32) fullShare ((dat V c).before 4 t d)))

/-- What it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 1600000 in
/-- The body at any grid point takes the windows from what they held before to what is stated after. -/
theorem sound (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl]
  rw [show (dat V c).leavesExact 0 t = owns (c : Thread nD τ) (win2_0.stage (cfg2.slots t 0) : Memref sig .tc .vmem S1x512x4096 .f32) fullShare ((dat V c).after 0 t) from by
    unfold Dat.leavesExact; rw [show cfg2.idle 0 (grid2.coords t) = false from rfl], after_0]
  rw [show (dat V c).leavesExact 1 t = owns (c : Thread nD τ) (win2_1.stage (cfg2.slots t 1) : Memref sig .tc .vmem S1x512x1 .f32) fullShare ((dat V c).after 1 t) from by
    unfold Dat.leavesExact; rw [show cfg2.idle 1 (grid2.coords t) = false from rfl], after_1]
  rw [show (dat V c).leavesExact 2 t = owns (c : Thread nD τ) (win2_2.stage (cfg2.slots t 2) : Memref sig .tc .vmem S1x512x1 .f32) fullShare ((dat V c).after 2 t) from by
    unfold Dat.leavesExact; rw [show cfg2.idle 2 (grid2.coords t) = false from rfl], after_2]
  rw [show (dat V c).leavesExact 3 t = owns (c : Thread nD τ) (win2_3.stage (cfg2.slots t 3) : Memref sig .tc .vmem S1x512x1 .f32) fullShare ((dat V c).after 3 t) from by
    unfold Dat.leavesExact; rw [show cfg2.idle 3 (grid2.coords t) = false from live_3 t], after_3]
  rw [show (dat V c).leavesExact 4 t = owns (c : Thread nD τ) (win2_4.stage (cfg2.slots t 4) : Memref sig .tc .vmem S1x512x4096 .f32) fullShare ((dat V c).after 4 t) from by
    unfold Dat.leavesExact; rw [show cfg2.idle 4 (grid2.coords t) = false from rfl], after_4]
  by_cases h : t.val % 4 = 0
  · rw [out3_first V c t h]
    iintro ⟨HΦ, Ho, ⟨%d0, H0⟩, ⟨%d1, H1⟩, ⟨%d2, H2⟩, ⟨%d3, H3⟩, ⟨%d4, H4⟩⟩
    iapply (tripleA c (grid2.coords t) _ _ _ _ _ _ _ _ _ _ ((cond1_iff t).mpr h) (fun h' => absurd ((cond2_iff t).mp h') (by omega)) (iblk V c 0 t) (iblk V c 1 t) (iblk V c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [out3_next V c t h]
    simp only [before_3 V c t h]
    iintro ⟨HΦ, Ho, ⟨%d0, H0⟩, ⟨%d1, H1⟩, ⟨%d2, H2⟩, ⟨%d3, H3⟩, ⟨%d4, H4⟩⟩
    iapply (tripleB c (grid2.coords t) _ _ _ _ _ _ _ _ _ _ (fun h' => h ((cond1_iff t).mp h')) ((cond2_iff t).mpr (by omega)) (iblk V c 0 t) (iblk V c 1 t) (iblk V c 2 t) (out3 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The region's body at a point is the program above. -/
theorem row (t : Fin cfg2.N) : defs₀ (F := F) .tc cfg2.body (cfg2.bodyArgs t (cfg2.slots t)) = bodyAt2 t := by
  unfold defs₀; rw [Defs.onTc_tc]

/-- The obligation of the region's body. -/
theorem obligation (c : Dev nD) : BodyObligation (dat (F := F) V c) (defs₀ (F := F)) Variants.none () Set.univ := fun t => by
  rw [bigSep_W2, bigSep_W2, row]
  exact triple_restated (sound V c t) rfl .rfl fun _ => .rfl

end Cert.KernelIdeal.Imp

end
-- ==== Proof.IRun.lean ====
module

public import proofs.«01_k».proof.Proof.IStats
public import proofs.«01_k».proof.Proof.IScalars
public import proofs.«01_k».proof.Proof.IImp
public import proofs.«01_k».proof.Proof.RunThree
public import Idealize.ShloMosaic.Lib.Pipeline.RegionArraysS

/-!
The run of the program: what the unscoped buffers hold when each of the three regions is entered and after the last, that the run ends
there, and that the arguments are as they were.
-/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat Cfg afterRegion arrRef)
open Cert.KernelIdeal.Gen

variable {F : FTy → Type} [FloatOps F]
variable (m : (ℓ : Loc nD τ sig) → Buf (Elt F) ℓ) (ρ : Dev nD → PrngReg)

/-- The buffers at the entry of the first region: the launch memory after the first line of host operations. -/
def w0 (c : Dev nD) : Valuation τ sig (Elt F) := StableHlo.after hostOps0 (StableHlo.launchContents m c)
/-- At the entry of the second: what the first leaves, after the second line. -/
def w1 (c : Dev nD) : Valuation τ sig (Elt F) := StableHlo.after hostOps1 (afterRegion (Stats.dat (w0 m) c) (w0 m c))
/-- At the entry of the third: what the second leaves, after the third line. -/
def w2 (c : Dev nD) : Valuation τ sig (Elt F) := StableHlo.after hostOps2 (afterRegion (Scalars.dat (w1 m) c) (w1 m c))
/-- After the third. -/
def w3 (c : Dev nD) : Valuation τ sig (Elt F) := afterRegion (Imp.dat (w2 m) c) (w2 m c)

/-- The entries of the three regions. -/
def entry : Fin 3 → Dev nD → Valuation τ sig (Elt F)
  | 0 => w0 m
  | 1 => w1 m
  | 2 => w2 m

/-- The records of the three regions. -/
def dats : (p : Fin 3) → (c : Dev nD) → Dat τ (Elt F) Unit ℕ (UR sig nD τ) ℕ (cfgs p) c
  | 0 => fun c => Stats.dat (w0 m) c
  | 1 => fun c => Scalars.dat (w1 m) c
  | 2 => fun c => Imp.dat (w2 m) c

theorem kit : ∀ p, Pipeline.LaunchFacts (nD := nD) (τ := τ) cfgs p
  | 0 => launch0
  | 1 => launch1
  | 2 => launch2

/-- Every semaphore of the TensorCore is scoped. -/
theorem all_scoped : ∀ sm : SemLoc sig, sm.isScoped .tc = true := by decide

/-- The run ends, every semaphore at zero and every unscoped buffer at `w3`. -/
theorem run : θ_run defs (onTc (τ := τ) (main (F := F))) ⟨m, fun _ => 0, ρ⟩ fun r =>
    (∀ (c : Dev nD) (b : Ref sig .tc), b.isScoped = false → r.2.mem ((c.tc : Thread nD τ).loc b) = w3 m c (Proc.devRef .tc b))
      ∧ r.2.sem = fun _ => 0 :=
  RunThree.run cfgs (dats m) kit defs₀ Variants.none m ρ main hostOps0 hostOps1 hostOps2 (entry m)
    hostOps0_sub hostOps1_sub hostOps2_sub
    (by rw [← List.forall_iff_forall_mem]; simp only [hostOps0, List.Forall]; repeat' constructor)
    (by rw [← List.forall_iff_forall_mem]; simp only [hostOps1, List.Forall]; repeat' constructor)
    (by rw [← List.forall_iff_forall_mem]; simp only [hostOps2, List.Forall]; repeat' constructor)
    main_chain
    (fun p c => match p with
      | 0 => (Stats.obligation (w0 m) c).loose
      | 1 => (Scalars.obligation (w1 m) c).loose
      | 2 => (Imp.obligation (w2 m) c).loose)
    (fun p c => match p with
      | 0 => (Stats.dat (w0 m) c).share_full fun _ => rfl
      | 1 => (Scalars.dat (w1 m) c).share_full fun _ => rfl
      | 2 => (Imp.dat (w2 m) c).share_full fun _ => rfl)
    (fun p c t => match p with | 0 => rfl | 1 => rfl | 2 => rfl)
    (fun p c => match p with | 0 => rfl | 1 => rfl | 2 => rfl)
    (fun p c t => match p with | 0 => rfl | 1 => rfl | 2 => rfl)
    (fun p c w => match p with
      | 0 => Stats.A_eq (w0 m) c w
      | 1 => Scalars.A_eq (w1 m) c w
      | 2 => Imp.A_eq (w2 m) c w)
    all_scoped (fun c => rfl) (fun c => rfl) (fun c => rfl)

/-! ## What is kept -/

/-- A buffer no operation of line 0 writes is at the entry of region 0 as before the line. -/
theorem line0_keeps (c : Dev nD) (b : Ref sig .tc) (h : (hostOps0 (F := F)).Forall fun op => Proc.devRef .tc b ∉ op.writes) :
    w0 m c (Proc.devRef .tc b) = (StableHlo.launchContents m c) (Proc.devRef .tc b) :=
  StableHlo.after_of_forall_not_mem (b := Proc.devRef .tc b) _ _ (List.forall_iff_forall_mem.mp h)

/-- A buffer that is no result of region 0 is kept by it. -/
theorem region0_keeps (c : Dev nD) (b : Ref sig .tc) (h : ∀ w, arrRef spec0 w = b → (cfg0.win w).isOut = false) :
    (afterRegion (Stats.dat (w0 m) c) (w0 m c)) (Proc.devRef .tc b) = w0 m c (Proc.devRef .tc b) :=
  Pipeline.afterRegion_keeps _ _ winFacts0.arr_inj (Stats.A_eq (w0 m) c) b h

/-- A buffer no operation of line 1 writes is at the entry of region 1 as before the line. -/
theorem line1_keeps (c : Dev nD) (b : Ref sig .tc) (h : (hostOps1 (F := F)).Forall fun op => Proc.devRef .tc b ∉ op.writes) :
    w1 m c (Proc.devRef .tc b) = (afterRegion (Stats.dat (w0 m) c) (w0 m c)) (Proc.devRef .tc b) :=
  StableHlo.after_of_forall_not_mem (b := Proc.devRef .tc b) _ _ (List.forall_iff_forall_mem.mp h)

/-- A buffer that is no result of region 1 is kept by it. -/
theorem region1_keeps (c : Dev nD) (b : Ref sig .tc) (h : ∀ w, arrRef spec1 w = b → (cfg1.win w).isOut = false) :
    (afterRegion (Scalars.dat (w1 m) c) (w1 m c)) (Proc.devRef .tc b) = w1 m c (Proc.devRef .tc b) :=
  Pipeline.afterRegion_keeps _ _ winFacts1.arr_inj (Scalars.A_eq (w1 m) c) b h

/-- A buffer no operation of line 2 writes is at the entry of region 2 as before the line. -/
theorem line2_keeps (c : Dev nD) (b : Ref sig .tc) (h : (hostOps2 (F := F)).Forall fun op => Proc.devRef .tc b ∉ op.writes) :
    w2 m c (Proc.devRef .tc b) = (afterRegion (Scalars.dat (w1 m) c) (w1 m c)) (Proc.devRef .tc b) :=
  StableHlo.after_of_forall_not_mem (b := Proc.devRef .tc b) _ _ (List.forall_iff_forall_mem.mp h)

/-- A buffer that is no result of region 2 is kept by it. -/
theorem region2_keeps (c : Dev nD) (b : Ref sig .tc) (h : ∀ w, arrRef spec2 w = b → (cfg2.win w).isOut = false) :
    (afterRegion (Imp.dat (w2 m) c) (w2 m c)) (Proc.devRef .tc b) = w2 m c (Proc.devRef .tc b) :=
  Pipeline.afterRegion_keeps _ _ winFacts2.arr_inj (Imp.A_eq (w2 m) c) b h

theorem w0_arg0 (c : Dev nD) : w0 m c (Proc.devRef .tc main_arg0) = m ((c.tc : Thread nD τ).loc main_arg0) :=
  line0_keeps m c main_arg0 (by
    simp only [hostOps0, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide)⟩)
theorem w1_arg0 (c : Dev nD) : w1 m c (Proc.devRef .tc main_arg0) = m ((c.tc : Thread nD τ).loc main_arg0) :=
  (line1_keeps m c main_arg0 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
    ((region0_keeps m c main_arg0 (by decide)).trans (w0_arg0 m c))
theorem w2_arg0 (c : Dev nD) : w2 m c (Proc.devRef .tc main_arg0) = m ((c.tc : Thread nD τ).loc main_arg0) :=
  (line2_keeps m c main_arg0 (by
    simp only [hostOps2, List.Forall, StableHlo.unary_writes, StableHlo.reshape_writes, Finset.mem_singleton]
    exact ⟨StableHlo.devRef_ne_of_ne (by decide), StableHlo.devRef_ne_of_ne (by decide)⟩)).trans
    ((region1_keeps m c main_arg0 (by decide)).trans (w1_arg0 m c))
theorem w3_arg0 (c : Dev nD) : w3 m c (Proc.devRef .tc main_arg0) = m ((c.tc : Thread nD τ).loc main_arg0) :=
  (region2_keeps m c main_arg0 (by decide)).trans (w2_arg0 m c)

theorem w0_arg1 (c : Dev nD) : w0 m c (Proc.devRef .tc main_arg1) = m ((c.tc : Thread nD τ).loc main_arg1) :=
  line0_keeps m c main_arg1 (by
    simp only [hostOps0, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide)⟩)
theorem w1_arg1 (c : Dev nD) : w1 m c (Proc.devRef .tc main_arg1) = m ((c.tc : Thread nD τ).loc main_arg1) :=
  (line1_keeps m c main_arg1 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
    ((region0_keeps m c main_arg1 (by decide)).trans (w0_arg1 m c))
theorem w2_arg1 (c : Dev nD) : w2 m c (Proc.devRef .tc main_arg1) = m ((c.tc : Thread nD τ).loc main_arg1) :=
  (line2_keeps m c main_arg1 (by
    simp only [hostOps2, List.Forall, StableHlo.unary_writes, StableHlo.reshape_writes, Finset.mem_singleton]
    exact ⟨StableHlo.devRef_ne_of_ne (by decide), StableHlo.devRef_ne_of_ne (by decide)⟩)).trans
    ((region1_keeps m c main_arg1 (by decide)).trans (w1_arg1 m c))
theorem w3_arg1 (c : Dev nD) : w3 m c (Proc.devRef .tc main_arg1) = m ((c.tc : Thread nD τ).loc main_arg1) :=
  (region2_keeps m c main_arg1 (by decide)).trans (w2_arg1 m c)

theorem w0_arg2 (c : Dev nD) : w0 m c (Proc.devRef .tc main_arg2) = m ((c.tc : Thread nD τ).loc main_arg2) :=
  line0_keeps m c main_arg2 (by
    simp only [hostOps0, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide)⟩)
theorem w1_arg2 (c : Dev nD) : w1 m c (Proc.devRef .tc main_arg2) = m ((c.tc : Thread nD τ).loc main_arg2) :=
  (line1_keeps m c main_arg2 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
    ((region0_keeps m c main_arg2 (by decide)).trans (w0_arg2 m c))
theorem w2_arg2 (c : Dev nD) : w2 m c (Proc.devRef .tc main_arg2) = m ((c.tc : Thread nD τ).loc main_arg2) :=
  (line2_keeps m c main_arg2 (by
    simp only [hostOps2, List.Forall, StableHlo.unary_writes, StableHlo.reshape_writes, Finset.mem_singleton]
    exact ⟨StableHlo.devRef_ne_of_ne (by decide), StableHlo.devRef_ne_of_ne (by decide)⟩)).trans
    ((region1_keeps m c main_arg2 (by decide)).trans (w1_arg2 m c))
theorem w3_arg2 (c : Dev nD) : w3 m c (Proc.devRef .tc main_arg2) = m ((c.tc : Thread nD τ).loc main_arg2) :=
  (region2_keeps m c main_arg2 (by decide)).trans (w2_arg2 m c)

theorem w0_arg3 (c : Dev nD) : w0 m c (Proc.devRef .tc main_arg3) = m ((c.tc : Thread nD τ).loc main_arg3) :=
  line0_keeps m c main_arg3 (by
    simp only [hostOps0, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide)⟩)
theorem w1_arg3 (c : Dev nD) : w1 m c (Proc.devRef .tc main_arg3) = m ((c.tc : Thread nD τ).loc main_arg3) :=
  (line1_keeps m c main_arg3 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
    ((region0_keeps m c main_arg3 (by decide)).trans (w0_arg3 m c))
theorem w2_arg3 (c : Dev nD) : w2 m c (Proc.devRef .tc main_arg3) = m ((c.tc : Thread nD τ).loc main_arg3) :=
  (line2_keeps m c main_arg3 (by
    simp only [hostOps2, List.Forall, StableHlo.unary_writes, StableHlo.reshape_writes, Finset.mem_singleton]
    exact ⟨StableHlo.devRef_ne_of_ne (by decide), StableHlo.devRef_ne_of_ne (by decide)⟩)).trans
    ((region1_keeps m c main_arg3 (by decide)).trans (w1_arg3 m c))
theorem w3_arg3 (c : Dev nD) : w3 m c (Proc.devRef .tc main_arg3) = m ((c.tc : Thread nD τ).loc main_arg3) :=
  (region2_keeps m c main_arg3 (by decide)).trans (w2_arg3 m c)

theorem w0_arg4 (c : Dev nD) : w0 m c (Proc.devRef .tc main_arg4) = m ((c.tc : Thread nD τ).loc main_arg4) :=
  line0_keeps m c main_arg4 (by
    simp only [hostOps0, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide)⟩)
theorem w1_arg4 (c : Dev nD) : w1 m c (Proc.devRef .tc main_arg4) = m ((c.tc : Thread nD τ).loc main_arg4) :=
  (line1_keeps m c main_arg4 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
    ((region0_keeps m c main_arg4 (by decide)).trans (w0_arg4 m c))
theorem w2_arg4 (c : Dev nD) : w2 m c (Proc.devRef .tc main_arg4) = m ((c.tc : Thread nD τ).loc main_arg4) :=
  (line2_keeps m c main_arg4 (by
    simp only [hostOps2, List.Forall, StableHlo.unary_writes, StableHlo.reshape_writes, Finset.mem_singleton]
    exact ⟨StableHlo.devRef_ne_of_ne (by decide), StableHlo.devRef_ne_of_ne (by decide)⟩)).trans
    ((region1_keeps m c main_arg4 (by decide)).trans (w1_arg4 m c))
theorem w3_arg4 (c : Dev nD) : w3 m c (Proc.devRef .tc main_arg4) = m ((c.tc : Thread nD τ).loc main_arg4) :=
  (region2_keeps m c main_arg4 (by decide)).trans (w2_arg4 m c)

theorem w0_arg5 (c : Dev nD) : w0 m c (Proc.devRef .tc main_arg5) = m ((c.tc : Thread nD τ).loc main_arg5) :=
  line0_keeps m c main_arg5 (by
    simp only [hostOps0, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide)⟩)
theorem w1_arg5 (c : Dev nD) : w1 m c (Proc.devRef .tc main_arg5) = m ((c.tc : Thread nD τ).loc main_arg5) :=
  (line1_keeps m c main_arg5 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
    ((region0_keeps m c main_arg5 (by decide)).trans (w0_arg5 m c))
theorem w2_arg5 (c : Dev nD) : w2 m c (Proc.devRef .tc main_arg5) = m ((c.tc : Thread nD τ).loc main_arg5) :=
  (line2_keeps m c main_arg5 (by
    simp only [hostOps2, List.Forall, StableHlo.unary_writes, StableHlo.reshape_writes, Finset.mem_singleton]
    exact ⟨StableHlo.devRef_ne_of_ne (by decide), StableHlo.devRef_ne_of_ne (by decide)⟩)).trans
    ((region1_keeps m c main_arg5 (by decide)).trans (w1_arg5 m c))
theorem w3_arg5 (c : Dev nD) : w3 m c (Proc.devRef .tc main_arg5) = m ((c.tc : Thread nD τ).loc main_arg5) :=
  (region2_keeps m c main_arg5 (by decide)).trans (w2_arg5 m c)

theorem w0_arg6 (c : Dev nD) : w0 m c (Proc.devRef .tc main_arg6) = m ((c.tc : Thread nD τ).loc main_arg6) :=
  line0_keeps m c main_arg6 (by
    simp only [hostOps0, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide)⟩)
theorem w1_arg6 (c : Dev nD) : w1 m c (Proc.devRef .tc main_arg6) = m ((c.tc : Thread nD τ).loc main_arg6) :=
  (line1_keeps m c main_arg6 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
    ((region0_keeps m c main_arg6 (by decide)).trans (w0_arg6 m c))
theorem w2_arg6 (c : Dev nD) : w2 m c (Proc.devRef .tc main_arg6) = m ((c.tc : Thread nD τ).loc main_arg6) :=
  (line2_keeps m c main_arg6 (by
    simp only [hostOps2, List.Forall, StableHlo.unary_writes, StableHlo.reshape_writes, Finset.mem_singleton]
    exact ⟨StableHlo.devRef_ne_of_ne (by decide), StableHlo.devRef_ne_of_ne (by decide)⟩)).trans
    ((region1_keeps m c main_arg6 (by decide)).trans (w1_arg6 m c))
theorem w3_arg6 (c : Dev nD) : w3 m c (Proc.devRef .tc main_arg6) = m ((c.tc : Thread nD τ).loc main_arg6) :=
  (region2_keeps m c main_arg6 (by decide)).trans (w2_arg6 m c)

theorem w0_arg7 (c : Dev nD) : w0 m c (Proc.devRef .tc main_arg7) = m ((c.tc : Thread nD τ).loc main_arg7) :=
  line0_keeps m c main_arg7 (by
    simp only [hostOps0, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide)⟩)
theorem w1_arg7 (c : Dev nD) : w1 m c (Proc.devRef .tc main_arg7) = m ((c.tc : Thread nD τ).loc main_arg7) :=
  (line1_keeps m c main_arg7 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
    ((region0_keeps m c main_arg7 (by decide)).trans (w0_arg7 m c))
theorem w2_arg7 (c : Dev nD) : w2 m c (Proc.devRef .tc main_arg7) = m ((c.tc : Thread nD τ).loc main_arg7) :=
  (line2_keeps m c main_arg7 (by
    simp only [hostOps2, List.Forall, StableHlo.unary_writes, StableHlo.reshape_writes, Finset.mem_singleton]
    exact ⟨StableHlo.devRef_ne_of_ne (by decide), StableHlo.devRef_ne_of_ne (by decide)⟩)).trans
    ((region1_keeps m c main_arg7 (by decide)).trans (w1_arg7 m c))
theorem w3_arg7 (c : Dev nD) : w3 m c (Proc.devRef .tc main_arg7) = m ((c.tc : Thread nD τ).loc main_arg7) :=
  (region2_keeps m c main_arg7 (by decide)).trans (w2_arg7 m c)

theorem w0_arg8 (c : Dev nD) : w0 m c (Proc.devRef .tc main_arg8) = m ((c.tc : Thread nD τ).loc main_arg8) :=
  line0_keeps m c main_arg8 (by
    simp only [hostOps0, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide)⟩)
theorem w1_arg8 (c : Dev nD) : w1 m c (Proc.devRef .tc main_arg8) = m ((c.tc : Thread nD τ).loc main_arg8) :=
  (line1_keeps m c main_arg8 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
    ((region0_keeps m c main_arg8 (by decide)).trans (w0_arg8 m c))
theorem w2_arg8 (c : Dev nD) : w2 m c (Proc.devRef .tc main_arg8) = m ((c.tc : Thread nD τ).loc main_arg8) :=
  (line2_keeps m c main_arg8 (by
    simp only [hostOps2, List.Forall, StableHlo.unary_writes, StableHlo.reshape_writes, Finset.mem_singleton]
    exact ⟨StableHlo.devRef_ne_of_ne (by decide), StableHlo.devRef_ne_of_ne (by decide)⟩)).trans
    ((region1_keeps m c main_arg8 (by decide)).trans (w1_arg8 m c))
theorem w3_arg8 (c : Dev nD) : w3 m c (Proc.devRef .tc main_arg8) = m ((c.tc : Thread nD τ).loc main_arg8) :=
  (region2_keeps m c main_arg8 (by decide)).trans (w2_arg8 m c)

theorem w0_arg9 (c : Dev nD) : w0 m c (Proc.devRef .tc main_arg9) = m ((c.tc : Thread nD τ).loc main_arg9) :=
  line0_keeps m c main_arg9 (by
    simp only [hostOps0, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide), StableHlo.devRef_ne_of_ne (by decide)⟩)
theorem w1_arg9 (c : Dev nD) : w1 m c (Proc.devRef .tc main_arg9) = m ((c.tc : Thread nD τ).loc main_arg9) :=
  (line1_keeps m c main_arg9 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
    ((region0_keeps m c main_arg9 (by decide)).trans (w0_arg9 m c))
theorem w2_arg9 (c : Dev nD) : w2 m c (Proc.devRef .tc main_arg9) = m ((c.tc : Thread nD τ).loc main_arg9) :=
  (line2_keeps m c main_arg9 (by
    simp only [hostOps2, List.Forall, StableHlo.unary_writes, StableHlo.reshape_writes, Finset.mem_singleton]
    exact ⟨StableHlo.devRef_ne_of_ne (by decide), StableHlo.devRef_ne_of_ne (by decide)⟩)).trans
    ((region1_keeps m c main_arg9 (by decide)).trans (w1_arg9 m c))
theorem w3_arg9 (c : Dev nD) : w3 m c (Proc.devRef .tc main_arg9) = m ((c.tc : Thread nD τ).loc main_arg9) :=
  (region2_keeps m c main_arg9 (by decide)).trans (w2_arg9 m c)

/-- The run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => ⟨(h.1 c main_arg0 rfl).trans (w3_arg0 m c), (h.1 c main_arg1 rfl).trans (w3_arg1 m c), (h.1 c main_arg2 rfl).trans (w3_arg2 m c), (h.1 c main_arg3 rfl).trans (w3_arg3 m c), (h.1 c main_arg4 rfl).trans (w3_arg4 m c), (h.1 c main_arg5 rfl).trans (w3_arg5 m c), (h.1 c main_arg6 rfl).trans (w3_arg6 m c), (h.1 c main_arg7 rfl).trans (w3_arg7 m c), (h.1 c main_arg8 rfl).trans (w3_arg8 m c), (h.1 c main_arg9 rfl).trans (w3_arg9 m c)⟩, h.2⟩) (run m ρ)

/-- The run ends with the two results at `w3` and the arguments as they were. -/
theorem results : θ_run defs (onTc (τ := τ) (main (F := F))) ⟨m, fun _ => 0, ρ⟩ (fun r => ∀ c : Dev nD,
      r.2.mem ((c.tc : Thread nD τ).loc main_v16_0) = w3 m c (Proc.devRef .tc main_v16_0)
      ∧ r.2.mem ((c.tc : Thread nD τ).loc main_v16_1) = w3 m c (Proc.devRef .tc main_v16_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h.1 c main_v16_0 rfl, h.1 c main_v16_1 rfl, (h.1 c main_arg0 rfl).trans (w3_arg0 m c), (h.1 c main_arg1 rfl).trans (w3_arg1 m c), (h.1 c main_arg2 rfl).trans (w3_arg2 m c), (h.1 c main_arg3 rfl).trans (w3_arg3 m c), (h.1 c main_arg4 rfl).trans (w3_arg4 m c), (h.1 c main_arg5 rfl).trans (w3_arg5 m c), (h.1 c main_arg6 rfl).trans (w3_arg6 m c), (h.1 c main_arg7 rfl).trans (w3_arg7 m c), (h.1 c main_arg8 rfl).trans (w3_arg8 m c), (h.1 c main_arg9 rfl).trans (w3_arg9 m c)⟩) (run m ρ)

end Cert.KernelIdeal.Run

end
-- ==== Proof.Duan.lean ====
module

public import Idealize.ShloMosaic.Lib.Pointwise
public import Idealize.ShloMosaic.PureOps.Ideal
public import Idealize.ShloMosaic.PureOps.Ideal.Laws
public import Mathlib.Algebra.BigOperators.Fin
public import Mathlib.Tactic.FieldSimp
public import Mathlib.Tactic.Ring
public import Mathlib.Tactic.Positivity

/-!
The mathematics of the normalisation, for one batch entry over the extended reals: the form in which it is computed from four sums
per channel, the form in which it is stated, and that the two agree where the data are real numbers.
-/

@[expose] public section

noncomputable section

namespace Cert.Duan

open Idealize.ShloMosaic

/-- One over the extent of the spatial axis. -/
abbrev inv : EReal := Ideal.ofBits .f32 0x38800000#32
/-- The number of channels. -/
abbrev chans : EReal := Ideal.ofBits .f32 0x44000000#32
/-- The extent of the spatial axis. -/
abbrev len : EReal := Ideal.ofBits .f32 0x46800000#32
/-- The number of elements of one batch entry. -/
abbrev total : EReal := Ideal.ofBits .f32 0x4B000000#32
/-- The constant added to a variance. -/
abbrev eps : EReal := Ideal.ofBits .f32 0x3A83126F#32

theorem inv_eq : inv = ((1 / 16384 : ℝ) : EReal) := by
  simp [inv, Ideal.ofBits, Ideal.ieee, -EReal.coe_mul]; norm_num
theorem chans_eq : chans = ((512 : ℝ) : EReal) := by
  simp [chans, Ideal.ofBits, Ideal.ieee, -EReal.coe_mul]; norm_num
theorem len_eq : len = ((16384 : ℝ) : EReal) := by
  simp [len, Ideal.ofBits, Ideal.ieee, -EReal.coe_mul]; norm_num
theorem total_eq : total = ((8388608 : ℝ) : EReal) := by
  simp [total, Ideal.ofBits, Ideal.ieee, -EReal.coe_mul]
theorem eps_eq : ∃ e : ℝ, 0 < e ∧ eps = (e : EReal) := by
  refine ⟨8589935 * (1 / 2 ^ 33), by norm_num, ?_⟩
  simp [eps, Ideal.ofBits, Ideal.ieee, -EReal.coe_mul]

/-- Dividing by the extent is multiplying by one over it. -/
theorem div_len (a : EReal) : Ideal.div a len = a * inv := by
  rw [len_eq, inv_eq, Ideal.div_coe (by norm_num)]

/-- A finite sum of real numbers. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The mean of squared deviations is the mean of the squares less the squared mean. -/
theorem variance {ι : Type} [Fintype ι] (f : ι → ℝ) (N : ℝ) (hN : (Fintype.card ι : ℝ) = N) (h0 : N ≠ 0) :
    (∑ j, (f j - (∑ k, f k) / N) * (f j - (∑ k, f k) / N)) / N
      = (∑ j, f j * f j) / N - (∑ k, f k) / N * ((∑ k, f k) / N) := by
  generalize hm : (∑ k, f k) / N = m
  have hs : ∑ k, f k = N * m := by rw [← hm]; field_simp
  have e : ∀ j, (f j - m) * (f j - m) = f j * f j - 2 * m * f j + m * m := fun j => by ring
  have h : ∑ j, (f j - m) * (f j - m) = ∑ j, f j * f j - N * (m * m) := by
    simp only [e, Finset.sum_add_distrib, Finset.sum_sub_distrib, ← Finset.mul_sum, hs, Finset.sum_const, Finset.card_univ, nsmul_eq_mul, hN]
    ring
  rw [h]
  field_simp

/-- A mixture of two values with weight `g` on the first. -/
def mix (g a b : EReal) : EReal := g * a + (1 - g) * b

section Forms

/-- The mean over the channels. -/
def chanMean (m : Fin 512 → EReal) : EReal := Ideal.div (∑ i, m i) chans

/-- The mixed mean, from the channel means. -/
def muK (g m : Fin 512 → EReal) (i : Fin 512) : EReal := mix (g i) (m i) (chanMean m)

/-- The mixed deviation, from the channel means and the channel means of the squares. -/
def sigK (g m q : Fin 512 → EReal) (i : Fin 512) : EReal :=
  mix (g i) (Ideal.sqrt (q i - m i * m i + eps)) (Ideal.sqrt (chanMean q - chanMean m * chanMean m + eps))

variable (x : Fin 512 → Fin 16384 → EReal)

/-- The mean of a channel. -/
def meanC (i : Fin 512) : EReal := Ideal.div (∑ l, x i l) len
/-- The mean of all channels. -/
def meanL : EReal := Ideal.div (∑ i, ∑ l, x i l) total
/-- The variance of a channel. -/
def varC (i : Fin 512) : EReal := Ideal.div (∑ l, (x i l - meanC x i) * (x i l - meanC x i)) len
/-- The variance of all channels. -/
def varL : EReal := Ideal.div (∑ i, ∑ l, (x i l - meanL x) * (x i l - meanL x)) total
/-- The mixed mean as stated. -/
def muR (g : Fin 512 → EReal) (i : Fin 512) : EReal := mix (g i) (meanC x i) (meanL x)
/-- The mixed deviation as stated. -/
def sigR (g : Fin 512 → EReal) (i : Fin 512) : EReal := mix (g i) (Ideal.sqrt (varC x i + eps)) (Ideal.sqrt (varL x + eps))

/-- The gate at one channel and place. -/
def gate (c : Fin 512 → Fin 16384 → EReal) (gw1 : Fin 256 → Fin 512 → EReal) (gb1 : Fin 256 → EReal) (gw2 : Fin 512 → Fin 256 → EReal)
    (gb2 : Fin 512 → EReal) (i : Fin 512) (l : Fin 16384) : EReal :=
  Ideal.logistic (∑ h, gw2 i h * max (∑ j, gw1 h j * c j l + gb1 h) 0 + gb2 i)

/-- The scale (first half) and shift (second half) from the pooled condition `p`. -/
def film (p : Fin 512 → EReal) (w1 : Fin 256 → Fin 512 → EReal) (b1 : Fin 256 → EReal) (w2 : Fin 1024 → Fin 256 → EReal)
    (b2 : Fin 1024 → EReal) (k : Fin 1024) : EReal :=
  ∑ h, max (∑ j, p j * w1 h j + b1 h) 0 * w2 k h + b2 k

end Forms

section Real
variable (x : Fin 512 → Fin 16384 → ℝ)

theorem div_real (a b : ℝ) (hb : b ≠ 0) : Ideal.div (a : EReal) (b : EReal) = ((a / b : ℝ) : EReal) := by
  rw [Ideal.div_coe hb, ← EReal.coe_mul, mul_one_div]

theorem sqrt_real (a : ℝ) (ha : 0 ≤ a) : Ideal.sqrt (a : EReal) = (Real.sqrt a : EReal) := by
  rw [Ideal.sqrt_coe, if_neg (not_lt.mpr ha)]

theorem mix_real (g a b : ℝ) : mix (g : EReal) (a : EReal) (b : EReal) = ((g * a + (1 - g) * b : ℝ) : EReal) := by
  unfold mix
  push_cast
  rfl

theorem meanC_real (i : Fin 512) : meanC (fun i l => (x i l : EReal)) i = (((∑ l, x i l) / 16384 : ℝ) : EReal) := by
  unfold meanC
  rw [sum_real, len_eq, div_real _ _ (by norm_num)]

theorem meanL_real : meanL (fun i l => (x i l : EReal)) = (((∑ i, ∑ l, x i l) / 8388608 : ℝ) : EReal) := by
  unfold meanL
  simp only [sum_real]
  rw [total_eq, div_real _ _ (by norm_num)]

theorem varC_real (i : Fin 512) : varC (fun i l => (x i l : EReal)) i
    = (((∑ l, (x i l - (∑ l, x i l) / 16384) * (x i l - (∑ l, x i l) / 16384)) / 16384 : ℝ) : EReal) := by
  unfold varC
  rw [meanC_real]
  simp only [← EReal.coe_sub, ← EReal.coe_mul, sum_real]
  rw [len_eq, div_real _ _ (by norm_num)]

theorem varL_real : varL (fun i l => (x i l : EReal))
    = (((∑ i, ∑ l, (x i l - (∑ i, ∑ l, x i l) / 8388608) * (x i l - (∑ i, ∑ l, x i l) / 8388608)) / 8388608 : ℝ) : EReal) := by
  unfold varL
  rw [meanL_real]
  simp only [← EReal.coe_sub, ← EReal.coe_mul, sum_real]
  rw [total_eq, div_real _ _ (by norm_num)]

theorem chanMean_real (m : Fin 512 → ℝ) : chanMean (fun i => (m i : EReal)) = (((∑ i, m i) / 512 : ℝ) : EReal) := by
  unfold chanMean
  rw [sum_real, chans_eq, div_real _ _ (by norm_num)]

/-- The mean of the channel means is the mean of all. -/
theorem meanL_eq : chanMean (meanC fun i l => (x i l : EReal)) = meanL fun i l => (x i l : EReal) := by
  have h : (meanC fun i l => (x i l : EReal)) = fun i => (((∑ l, x i l) / 16384 : ℝ) : EReal) := funext fun i => meanC_real x i
  rw [h, chanMean_real, meanL_real, ← Finset.sum_div, div_div]
  norm_num

/-- A channel's variance, from the mean of its squares. -/
theorem varC_eq (i : Fin 512) :
    meanC (fun i l => (x i l : EReal) * (x i l : EReal)) i - meanC (fun i l => (x i l : EReal)) i * meanC (fun i l => (x i l : EReal)) i
      = varC (fun i l => (x i l : EReal)) i := by
  have h : meanC (fun i l => (x i l : EReal) * (x i l : EReal)) i = (((∑ l, x i l * x i l) / 16384 : ℝ) : EReal) := by
    simp only [← EReal.coe_mul]
    exact meanC_real (fun i l => x i l * x i l) i
  rw [h, meanC_real, varC_real, variance (fun l => x i l) 16384 (by simp) (by norm_num)]
  push_cast
  rfl

/-- The variance of all channels, from the means of the channels' squares. -/
theorem varL_eq :
    chanMean (meanC fun i l => (x i l : EReal) * (x i l : EReal))
        - chanMean (meanC fun i l => (x i l : EReal)) * chanMean (meanC fun i l => (x i l : EReal))
      = varL (fun i l => (x i l : EReal)) := by
  have h : chanMean (meanC fun i l => (x i l : EReal) * (x i l : EReal)) = (((∑ i, ∑ l, x i l * x i l) / 8388608 : ℝ) : EReal) := by
    simp only [← EReal.coe_mul]
    exact (meanL_eq (fun i l => x i l * x i l)).trans (meanL_real _)
  rw [h, meanL_eq, meanL_real, varL_real]
  have hv := variance (fun p : Fin 512 × Fin 16384 => x p.1 p.2) 8388608 (by simp) (by norm_num)
  simp only [Fintype.sum_prod_type] at hv
  rw [hv]
  push_cast
  rfl

/-- The two forms of the mixed mean agree, and it is a real number. -/
theorem mu_eq (g : Fin 512 → ℝ) (i : Fin 512) :
    muK (fun i => (g i : EReal)) (meanC fun i l => (x i l : EReal)) i = muR (fun i l => (x i l : EReal)) (fun i => (g i : EReal)) i := by
  unfold muK muR
  rw [meanL_eq]

/-- The two forms of the mixed deviation agree. -/
theorem sig_eq (g : Fin 512 → ℝ) (i : Fin 512) :
    sigK (fun i => (g i : EReal)) (meanC fun i l => (x i l : EReal)) (meanC fun i l => (x i l : EReal) * (x i l : EReal)) i
      = sigR (fun i l => (x i l : EReal)) (fun i => (g i : EReal)) i := by
  unfold sigK sigR
  rw [varC_eq, varL_eq]

theorem mu_real (g : Fin 512 → ℝ) (i : Fin 512) : ∃ r : ℝ, muR (fun i l => (x i l : EReal)) (fun i => (g i : EReal)) i = (r : EReal) := by
  unfold muR
  rw [meanC_real, meanL_real, mix_real]
  exact ⟨_, rfl⟩

/-- The mixed deviation is a positive real number. -/
theorem sig_real (g : Fin 512 → ℝ) (i : Fin 512) (h0 : 0 ≤ g i) (h1 : g i ≤ 1) :
    ∃ r : ℝ, 0 < r ∧ sigR (fun i l => (x i l : EReal)) (fun i => (g i : EReal)) i = (r : EReal) := by
  obtain ⟨e, he, hee⟩ := eps_eq
  unfold sigR
  rw [varC_real, varL_real, hee, ← EReal.coe_add, ← EReal.coe_add]
  generalize hC : (∑ l, (x i l - (∑ l, x i l) / 16384) * (x i l - (∑ l, x i l) / 16384)) / 16384 = C
  generalize hL : (∑ i, ∑ l, (x i l - (∑ i, ∑ l, x i l) / 8388608) * (x i l - (∑ i, ∑ l, x i l) / 8388608)) / 8388608 = L
  have hC0 : 0 ≤ C := hC ▸ div_nonneg (Finset.sum_nonneg fun _ _ => mul_self_nonneg _) (by norm_num)
  have hL0 : 0 ≤ L := hL ▸ div_nonneg (Finset.sum_nonneg fun _ _ => Finset.sum_nonneg fun _ _ => mul_self_nonneg _) (by norm_num)
  rw [sqrt_real _ (by linarith), sqrt_real _ (by linarith), mix_real]
  refine ⟨_, ?_, rfl⟩
  have p1 : 0 < Real.sqrt (C + e) := Real.sqrt_pos.mpr (by linarith)
  have p2 : 0 < Real.sqrt (L + e) := Real.sqrt_pos.mpr (by linarith)
  rcases h0.eq_or_lt with hg | hg
  · rw [← hg]; simpa using p2
  · have := mul_pos hg p1
    have := mul_nonneg (sub_nonneg.mpr h1) p2.le
    linarith

/-- Scale and shift after normalising is one scale and one shift. -/
theorem affine (g b m s x : ℝ) (hs : 0 < s) :
    Ideal.div (1 + (g : EReal)) (s : EReal) * (x : EReal) + ((b : EReal) - Ideal.div (1 + (g : EReal)) (s : EReal) * (m : EReal))
      = (1 + (g : EReal)) * Ideal.div ((x : EReal) - (m : EReal)) (s : EReal) + (b : EReal) := by
  have h1 : (1 + (g : EReal)) = ((1 + g : ℝ) : EReal) := by push_cast; rfl
  rw [h1, ← EReal.coe_sub, div_real _ _ hs.ne', div_real _ _ hs.ne']
  simp only [← EReal.coe_sub, ← EReal.coe_mul, ← EReal.coe_add]
  congr 1
  field_simp
  ring

/-- A gate is a real number between zero and one. -/
theorem logistic_real (a : EReal) : ∃ r : ℝ, 0 ≤ r ∧ r ≤ 1 ∧ Ideal.logistic a = (r : EReal) := by
  induction a with
  | bot => exact ⟨0, le_rfl, zero_le_one, by simp⟩
  | top => exact ⟨1, zero_le_one, le_rfl, by simp⟩
  | coe r =>
    refine ⟨(1 + Real.exp (-r))⁻¹, by positivity, ?_, Ideal.logistic_coe _⟩
    exact inv_le_one_of_one_le₀ (by have := Real.exp_pos (-r); linarith)

/-- The mean of gates is a real number between zero and one. -/
theorem gateMean_real (f : Fin 512 → Fin 16384 → EReal) (hf : ∀ i l, ∃ r : ℝ, 0 ≤ r ∧ r ≤ 1 ∧ f i l = (r : EReal)) :
    ∃ g : Fin 512 → ℝ, (∀ i, 0 ≤ g i) ∧ (∀ i, g i ≤ 1) ∧ (meanC f) = fun i => (g i : EReal) := by
  choose r h0 h1 he using hf
  refine ⟨fun i => (∑ l, r i l) / 16384, fun i => div_nonneg (Finset.sum_nonneg fun _ _ => h0 _ _) (by norm_num), fun i => ?_, ?_⟩
  · rw [div_le_one (by norm_num)]
    refine (Finset.sum_le_sum fun l _ => h1 i l).trans ?_
    simp
  · have : f = fun i l => (r i l : EReal) := funext fun i => funext fun l => he i l
    rw [this]
    exact funext fun i => meanC_real r i

/-- With real data the scale and shift are real numbers. -/
theorem film_real (p : Fin 512 → ℝ) (w1 : Fin 256 → Fin 512 → ℝ) (b1 : Fin 256 → ℝ) (w2 : Fin 1024 → Fin 256 → ℝ)
    (b2 : Fin 1024 → ℝ) (k : Fin 1024) :
    ∃ r : ℝ, film (fun j => (p j : EReal)) (fun h j => (w1 h j : EReal)) (fun h => (b1 h : EReal)) (fun k h => (w2 k h : EReal))
      (fun k => (b2 k : EReal)) k = (r : EReal) := by
  refine ⟨∑ h, max (∑ j, p j * w1 h j + b1 h) 0 * w2 k h + b2 k, ?_⟩
  unfold film
  have hz : (0 : EReal) = ((0 : ℝ) : EReal) := rfl
  have hm : ∀ a b : ℝ, max (a : EReal) (b : EReal) = ((max a b : ℝ) : EReal) := fun a b => (EReal.coe_strictMono.monotone.map_max).symm
  simp only [hz, ← EReal.coe_mul, ← EReal.coe_add, sum_real, hm]

end Real

end Cert.Duan
-- ==== Proof.VStats.lean ====
module

public import proofs.«01_k».proof.Proof.IStats
public import Idealize.ShloMosaic.Lib.Pipeline.ValueKit
public import Idealize.ShloMosaic.Lib.Pointwise
public import proofs.«01_k».proof.Proof.Duan

/-!
What the first region leaves in its four result arrays, over the extended reals: for each batch entry and channel a sum over the
whole spatial axis, cut into its four blocks.
-/

@[expose] public section

set_option maxRecDepth 16384

noncomputable section

namespace Cert.KernelIdeal.StatsValue

open Cert.KernelIdeal Cert.KernelIdeal.Gen Cert.KernelIdeal.Stats Idealize.ShloMosaic Idealize.ShloMosaic.TcCoe Idealize.SL.Sem
open Idealize.ShloMosaic.Pipeline (Dat)

variable (V : Dev nD → Valuation τ sig (Elt Ideal)) (c : Dev nD)

/-- The place of lane `k` of block `s` on the spatial axis. -/
abbrev lane (s : Fin 4) (k : Fin 4096) : Fin 16384 := ⟨s.val * 4096 + k.val, by omega⟩

theorem index_x : ∀ t : Fin cfg0.N, (cfg0.win 4).index t 0 = t.val / 4 ∧ (cfg0.win 4).index t 1 = 0 ∧ (cfg0.win 4).index t 2 = t.val % 4 := by
  decide +kernel

theorem index_6 : ∀ t : Fin cfg0.N, (cfg0.win 6).index t 0 = t.val / 4 ∧ (cfg0.win 6).index t 1 = 0 ∧ (cfg0.win 6).index t 2 = 0 := by
  decide +kernel
theorem index_7 : ∀ t : Fin cfg0.N, (cfg0.win 7).index t 0 = t.val / 4 ∧ (cfg0.win 7).index t 1 = 0 ∧ (cfg0.win 7).index t 2 = 0 := by
  decide +kernel
theorem index_8 : ∀ t : Fin cfg0.N, (cfg0.win 8).index t 0 = t.val / 4 ∧ (cfg0.win 8).index t 1 = 0 ∧ (cfg0.win 8).index t 2 = 0 := by
  decide +kernel
theorem index_9 : ∀ t : Fin cfg0.N, (cfg0.win 9).index t 0 = t.val / 4 ∧ (cfg0.win 9).index t 1 = 0 ∧ (cfg0.win 9).index t 2 = 0 := by
  decide +kernel

theorem index_c : ∀ t : Fin cfg0.N, (cfg0.win 5).index t 0 = t.val / 4 ∧ (cfg0.win 5).index t 1 = 0 ∧ (cfg0.win 5).index t 2 = t.val % 4 := by
  decide +kernel

theorem index_g0 : ∀ t : Fin cfg0.N, (cfg0.win 0).index t 0 = 0 ∧ (cfg0.win 0).index t 1 = 0 := by
  decide +kernel

theorem index_g1 : ∀ t : Fin cfg0.N, (cfg0.win 1).index t 0 = 0 ∧ (cfg0.win 1).index t 1 = 0 := by
  decide +kernel

theorem index_g2 : ∀ t : Fin cfg0.N, (cfg0.win 2).index t 0 = 0 ∧ (cfg0.win 2).index t 1 = 0 := by
  decide +kernel

theorem index_g3 : ∀ t : Fin cfg0.N, (cfg0.win 3).index t 0 = 0 ∧ (cfg0.win 3).index t 1 = 0 := by
  decide +kernel

/-- The array of `x` at the region's entry. -/
abbrev X : Vec Ideal S8x512x16384 .f32 := V c (Proc.devRef .tc (Pipeline.arrRef spec0 4))

/-- Window 4's block. -/
abbrev XB (t : Fin cfg0.N) : Vec Ideal S1x512x4096 .f32 := iblk V c 4 t
/-- Window 5's block. -/
abbrev CB (t : Fin cfg0.N) : Vec Ideal S1x512x4096 .f32 := iblk V c 5 t
/-- Window 0's block. -/
abbrev B0 (t : Fin cfg0.N) : Vec Ideal S256x512 .bf16 := iblk V c 0 t
/-- Window 1's block. -/
abbrev B1 (t : Fin cfg0.N) : Vec Ideal S256x1 .f32 := iblk V c 1 t
/-- Window 2's block. -/
abbrev B2 (t : Fin cfg0.N) : Vec Ideal S512x256 .bf16 := iblk V c 2 t
/-- Window 3's block. -/
abbrev B3 (t : Fin cfg0.N) : Vec Ideal S512x1 .f32 := iblk V c 3 t

/-- The array of `c` at the region's entry. -/
abbrev C : Vec Ideal S8x512x16384 .f32 := V c (Proc.devRef .tc (Pipeline.arrRef spec0 5))
/-- The gate's first weights at the region's entry. -/
abbrev GW1 : Vec Ideal S256x512 .bf16 := V c (Proc.devRef .tc (Pipeline.arrRef spec0 0))
/-- The gate's first biases at the region's entry. -/
abbrev GB1 : Vec Ideal S256x1 .f32 := V c (Proc.devRef .tc (Pipeline.arrRef spec0 1))
/-- The gate's second weights at the region's entry. -/
abbrev GW2 : Vec Ideal S512x256 .bf16 := V c (Proc.devRef .tc (Pipeline.arrRef spec0 2))
/-- The gate's second biases at the region's entry. -/
abbrev GB2 : Vec Ideal S512x1 .f32 := V c (Proc.devRef .tc (Pipeline.arrRef spec0 3))

/-- One block of `c` at an index. -/
theorem c_at (t : Fin cfg0.N) (i : Fin 512) (k : Fin 4096) :
    CB V c t (ix3 0 i k)
      = C V c (ix3 ⟨t.val / 4, by have := Nat.lt_of_lt_of_eq t.isLt N_0; omega⟩ i (lane ⟨t.val % 4, by omega⟩ k)) := by
  obtain ⟨e0, e1, e2⟩ := index_c t
  unfold CB iblk C
  blk_ext [e0, e1, e2]

/-- The block of window 0 is its array. -/
theorem g0_at (t : Fin cfg0.N) (i : Fin 256) (j : Fin 512) : B0 V c t (ix2 i j) = GW1 V c (ix2 i j) := by
  obtain ⟨e0, e1⟩ := index_g0 t
  unfold B0 iblk GW1
  blk_ext [e0, e1]

/-- The block of window 1 is its array. -/
theorem g1_at (t : Fin cfg0.N) (i : Fin 256) (j : Fin 1) : B1 V c t (ix2 i j) = GB1 V c (ix2 i j) := by
  obtain ⟨e0, e1⟩ := index_g1 t
  unfold B1 iblk GB1
  blk_ext [e0, e1]

/-- The block of window 2 is its array. -/
theorem g2_at (t : Fin cfg0.N) (i : Fin 512) (j : Fin 256) : B2 V c t (ix2 i j) = GW2 V c (ix2 i j) := by
  obtain ⟨e0, e1⟩ := index_g2 t
  unfold B2 iblk GW2
  blk_ext [e0, e1]

/-- The block of window 3 is its array. -/
theorem g3_at (t : Fin cfg0.N) (i : Fin 512) (j : Fin 1) : B3 V c t (ix2 i j) = GB2 V c (ix2 i j) := by
  obtain ⟨e0, e1⟩ := index_g3 t
  unfold B3 iblk GB2
  blk_ext [e0, e1]

/-- One block of `x` at an index. -/
theorem x_at (t : Fin cfg0.N) (i : Fin 512) (k : Fin 4096) :
    XB V c t (ix3 0 i k)
      = X V c (ix3 ⟨t.val / 4, by have := Nat.lt_of_lt_of_eq t.isLt N_0; omega⟩ i (lane ⟨t.val % 4, by omega⟩ k)) := by
  obtain ⟨e0, e1, e2⟩ := index_x t
  unfold XB iblk X
  blk_ext [e0, e1, e2]

theorem pay1_at (v : FVec Ideal S512x1 .f32) (i : Fin 512) : k0_pay1 v (ix3 0 i 0) = v (ix2 i 0) := by
  pointwise [k0_pay1]

theorem pay5_at (v : FVec Ideal S512x1 .f32) (p : Vec Ideal S1x512x1 .f32) (i : Fin 512) : k0_pay5 v p (ix3 0 i 0) = p (ix3 0 i 0) + v (ix2 i 0) := by
  pointwise [k0_pay5]

theorem pay11_at (v : Vec Ideal S1x512x4096 .f32) (i : Fin 512) : k0_pay11 v (ix2 i 0) = ∑ k : Fin 4096, v (ix3 0 i k) := by
  pointwise [k0_pay11, k0_pay9]

theorem pay2_at (v : FVec Ideal S512x1 .f32) (i : Fin 512) : k0_pay2 v (ix3 0 i 0) = v (ix2 i 0) := by
  pointwise [k0_pay2]

theorem pay6_at (v : FVec Ideal S512x1 .f32) (p : Vec Ideal S1x512x1 .f32) (i : Fin 512) : k0_pay6 v p (ix3 0 i 0) = p (ix3 0 i 0) + v (ix2 i 0) := by
  pointwise [k0_pay6]

theorem pay3_at (v : FVec Ideal S512x1 .f32) (i : Fin 512) : k0_pay3 v (ix3 0 i 0) = v (ix2 i 0) := by
  pointwise [k0_pay3]

theorem pay7_at (v : FVec Ideal S512x1 .f32) (p : Vec Ideal S1x512x1 .f32) (i : Fin 512) : k0_pay7 v p (ix3 0 i 0) = p (ix3 0 i 0) + v (ix2 i 0) := by
  pointwise [k0_pay7]

theorem pay4_at (v : FVec Ideal S512x1 .f32) (i : Fin 512) : k0_pay4 v (ix3 0 i 0) = v (ix2 i 0) := by
  pointwise [k0_pay4]

theorem pay8_at (v : FVec Ideal S512x1 .f32) (p : Vec Ideal S1x512x1 .f32) (i : Fin 512) : k0_pay8 v p (ix3 0 i 0) = p (ix3 0 i 0) + v (ix2 i 0) := by
  pointwise [k0_pay8]

theorem pay12_at (v : Vec Ideal S1x512x4096 .f32) (i : Fin 512) : k0_pay12 v (ix2 i 0) = ∑ k : Fin 4096, v (ix3 0 i k) * v (ix3 0 i k) := by
  pointwise [k0_pay12, k0_pay9]

theorem pay14_at (v : Vec Ideal S1x512x4096 .f32) (i : Fin 512) : k0_pay14 v (ix2 i 0) = ∑ k : Fin 4096, v (ix3 0 i k) := by
  pointwise [k0_pay14, k0_pay10]

theorem pay13_at (c : Vec Ideal S1x512x4096 .f32) (w1 : Vec Ideal S256x512 .bf16) (b1 : Vec Ideal S256x1 .f32) (w2 : Vec Ideal S512x256 .bf16)
    (b2 : Vec Ideal S512x1 .f32) (i : Fin 512) : k0_pay13 c w1 b1 w2 b2 (ix2 i 0)
      = ∑ k : Fin 4096, Ideal.logistic (∑ h : Fin 256, w2 (ix2 i h) * max (∑ j : Fin 512, w1 (ix2 h j) * c (ix3 0 j k) + b1 (ix2 h 0)) 0 + b2 (ix2 i 0)) := by
  pointwise [k0_pay13, k0_pay10]

/-- The gate at one place, from the arrays at the region's entry. -/
abbrev gateAt (b : Fin 8) (i : Fin 512) (l : Fin 16384) : EReal :=
  Duan.gate (fun j l => C V c (ix3 b j l)) (fun h j => GW1 V c (ix2 h j)) (fun h => GB1 V c (ix2 h 0)) (fun i h => GW2 V c (ix2 i h))
    (fun i => GB2 V c (ix2 i 0)) i l

/-- A sum over the blocks and their lanes is a sum over the axis. -/
theorem sum_lanes (f : Fin 16384 → EReal) : ∑ s : Fin 4, ∑ k : Fin 4096, f (lane s k) = ∑ l, f l := by
  exact Fin.sum_mul_add_fin 4 4096 f rfl

/-- The batch entry of a grid point. -/
abbrev batch (t : Fin cfg0.N) : Fin 8 := ⟨t.val / 4, by have := Nat.lt_of_lt_of_eq t.isLt N_0; omega⟩

/-- The sums of `x`: what the window holds at the last block of a batch entry. -/
theorem out6_at (t : Fin cfg0.N) (ht : t.val % 4 = 4 - 1) (i : Fin 512) :
    out6 V c t.val t.isLt (ix3 0 i 0) = ∑ l, X V c (ix3 (batch t) i l) := by
  have h := Pipeline.eq_sum_fin_of_reset_step_apply_of_flush (N := cfg0.N) (fun n h (i : Fin 512) => out6 V c n h (ix3 0 i 0)) 4 (fun _ => 0)
    (fun t i => ∑ k : Fin 4096, XB V c t (ix3 0 i k))
    (fun t h0 i => by rw [out6_first V c t h0, pay1_at, pay11_at, zero_add])
    (fun t h0 i => by rw [out6_next V c t h0, pay5_at, pay11_at]) t ht i
  refine h.trans ?_
  rw [zero_add, ← sum_lanes]
  refine Finset.sum_congr rfl fun s _ => Finset.sum_congr rfl fun k _ => ?_
  have e1 : (⟨(4 * (t.val / 4) + s.val) / 4, by have := Nat.lt_of_lt_of_eq t.isLt N_0; omega⟩ : Fin 8) = batch t :=
    Fin.ext (show (4 * (t.val / 4) + s.val) / 4 = t.val / 4 by omega)
  have e2 : (⟨(4 * (t.val / 4) + s.val) % 4, by omega⟩ : Fin 4) = s := Fin.ext (show (4 * (t.val / 4) + s.val) % 4 = s.val by omega)
  simp only [x_at, e1, e2]

/-- The array of the sums of `x` after the region. -/
theorem arr6 : (dat V c).arrAt 6 cfg0.N = fun j : S8x512x1.Idx => ∑ l, X V c (ix3 (j 0) (j 1) l) := by
  refine (dat V c).arrAt_eq_of_covers 6 _ (by decide +kernel) fun t hf y => ?_
  blk_simp
  rw [after_6]
  have ht := (Gen.flush0_6 t).mp hf
  obtain ⟨e0, e1, e2⟩ := index_6 t
  obtain ⟨a, i, d, rfl⟩ : ∃ (a : Fin 1) (i : Fin 512) (d : Fin 1), y = ix3 a i d := ⟨y 0, y 1, y 2, eq_ix3 y⟩
  obtain rfl : a = 0 := Subsingleton.elim _ _
  obtain rfl : d = 0 := Subsingleton.elim _ _
  refine (out6_at V c t ht i).trans ?_
  have e3 : ((win0_6.blk t).view.emb (ix3 0 i 0)) 0 = batch t := by apply Fin.ext; blk_simp [e0]; exact Nat.add_zero _
  have e4 : ((win0_6.blk t).view.emb (ix3 0 i 0)) 1 = i := by apply Fin.ext; blk_simp [e1]
  simp only [e3, e4]

/-- The sums of the squares of `x`: what the window holds at the last block of a batch entry. -/
theorem out7_at (t : Fin cfg0.N) (ht : t.val % 4 = 4 - 1) (i : Fin 512) :
    out7 V c t.val t.isLt (ix3 0 i 0) = ∑ l, (X V c (ix3 (batch t) i l) * X V c (ix3 (batch t) i l)) := by
  have h := Pipeline.eq_sum_fin_of_reset_step_apply_of_flush (N := cfg0.N) (fun n h (i : Fin 512) => out7 V c n h (ix3 0 i 0)) 4 (fun _ => 0)
    (fun t i => ∑ k : Fin 4096, XB V c t (ix3 0 i k) * XB V c t (ix3 0 i k))
    (fun t h0 i => by rw [out7_first V c t h0, pay2_at, pay12_at, zero_add])
    (fun t h0 i => by rw [out7_next V c t h0, pay6_at, pay12_at]) t ht i
  refine h.trans ?_
  rw [zero_add, ← sum_lanes]
  refine Finset.sum_congr rfl fun s _ => Finset.sum_congr rfl fun k _ => ?_
  have e1 : (⟨(4 * (t.val / 4) + s.val) / 4, by have := Nat.lt_of_lt_of_eq t.isLt N_0; omega⟩ : Fin 8) = batch t :=
    Fin.ext (show (4 * (t.val / 4) + s.val) / 4 = t.val / 4 by omega)
  have e2 : (⟨(4 * (t.val / 4) + s.val) % 4, by omega⟩ : Fin 4) = s := Fin.ext (show (4 * (t.val / 4) + s.val) % 4 = s.val by omega)
  simp only [x_at, e1, e2]

/-- The array of the sums of the squares of `x` after the region. -/
theorem arr7 : (dat V c).arrAt 7 cfg0.N = fun j : S8x512x1.Idx => ∑ l, (X V c (ix3 (j 0) (j 1) l) * X V c (ix3 (j 0) (j 1) l)) := by
  refine (dat V c).arrAt_eq_of_covers 7 _ (by decide +kernel) fun t hf y => ?_
  blk_simp
  rw [after_7]
  have ht := (Gen.flush0_7 t).mp hf
  obtain ⟨e0, e1, e2⟩ := index_7 t
  obtain ⟨a, i, d, rfl⟩ : ∃ (a : Fin 1) (i : Fin 512) (d : Fin 1), y = ix3 a i d := ⟨y 0, y 1, y 2, eq_ix3 y⟩
  obtain rfl : a = 0 := Subsingleton.elim _ _
  obtain rfl : d = 0 := Subsingleton.elim _ _
  refine (out7_at V c t ht i).trans ?_
  have e3 : ((win0_7.blk t).view.emb (ix3 0 i 0)) 0 = batch t := by apply Fin.ext; blk_simp [e0]; exact Nat.add_zero _
  have e4 : ((win0_7.blk t).view.emb (ix3 0 i 0)) 1 = i := by apply Fin.ext; blk_simp [e1]
  simp only [e3, e4]

/-- The sums of the gates: what the window holds at the last block of a batch entry. -/
theorem out8_at (t : Fin cfg0.N) (ht : t.val % 4 = 4 - 1) (i : Fin 512) :
    out8 V c t.val t.isLt (ix3 0 i 0) = ∑ l, gateAt V c (batch t) i l := by
  have h := Pipeline.eq_sum_fin_of_reset_step_apply_of_flush (N := cfg0.N) (fun n h (i : Fin 512) => out8 V c n h (ix3 0 i 0)) 4 (fun _ => 0)
    (fun t i => ∑ k : Fin 4096, Ideal.logistic (∑ h : Fin 256, B2 V c t (ix2 i h)
        * max (∑ j : Fin 512, B0 V c t (ix2 h j) * CB V c t (ix3 0 j k) + B1 V c t (ix2 h 0)) 0
        + B3 V c t (ix2 i 0)))
    (fun t h0 i => by rw [out8_first V c t h0, pay3_at, pay13_at, zero_add])
    (fun t h0 i => by rw [out8_next V c t h0, pay7_at, pay13_at]) t ht i
  refine h.trans ?_
  rw [zero_add, ← sum_lanes]
  refine Finset.sum_congr rfl fun s _ => Finset.sum_congr rfl fun k _ => ?_
  have e1 : (⟨(4 * (t.val / 4) + s.val) / 4, by have := Nat.lt_of_lt_of_eq t.isLt N_0; omega⟩ : Fin 8) = batch t :=
    Fin.ext (show (4 * (t.val / 4) + s.val) / 4 = t.val / 4 by omega)
  have e2 : (⟨(4 * (t.val / 4) + s.val) % 4, by omega⟩ : Fin 4) = s := Fin.ext (show (4 * (t.val / 4) + s.val) % 4 = s.val by omega)
  simp only [c_at, g0_at, g1_at, g2_at, g3_at, e1, e2, gateAt, Duan.gate]

/-- The array of the sums of the gates after the region. -/
theorem arr8 : (dat V c).arrAt 8 cfg0.N = fun j : S8x512x1.Idx => ∑ l, gateAt V c (j 0) (j 1) l := by
  refine (dat V c).arrAt_eq_of_covers 8 _ (by decide +kernel) fun t hf y => ?_
  blk_simp
  rw [after_8]
  have ht := (Gen.flush0_8 t).mp hf
  obtain ⟨e0, e1, e2⟩ := index_8 t
  obtain ⟨a, i, d, rfl⟩ : ∃ (a : Fin 1) (i : Fin 512) (d : Fin 1), y = ix3 a i d := ⟨y 0, y 1, y 2, eq_ix3 y⟩
  obtain rfl : a = 0 := Subsingleton.elim _ _
  obtain rfl : d = 0 := Subsingleton.elim _ _
  refine (out8_at V c t ht i).trans ?_
  have e3 : ((win0_8.blk t).view.emb (ix3 0 i 0)) 0 = batch t := by apply Fin.ext; blk_simp [e0]; exact Nat.add_zero _
  have e4 : ((win0_8.blk t).view.emb (ix3 0 i 0)) 1 = i := by apply Fin.ext; blk_simp [e1]
  simp only [e3, e4]

/-- The sums of `c`: what the window holds at the last block of a batch entry. -/
theorem out9_at (t : Fin cfg0.N) (ht : t.val % 4 = 4 - 1) (i : Fin 512) :
    out9 V c t.val t.isLt (ix3 0 i 0) = ∑ l, C V c (ix3 (batch t) i l) := by
  have h := Pipeline.eq_sum_fin_of_reset_step_apply_of_flush (N := cfg0.N) (fun n h (i : Fin 512) => out9 V c n h (ix3 0 i 0)) 4 (fun _ => 0)
    (fun t i => ∑ k : Fin 4096, CB V c t (ix3 0 i k))
    (fun t h0 i => by rw [out9_first V c t h0, pay4_at, pay14_at, zero_add])
    (fun t h0 i => by rw [out9_next V c t h0, pay8_at, pay14_at]) t ht i
  refine h.trans ?_
  rw [zero_add, ← sum_lanes]
  refine Finset.sum_congr rfl fun s _ => Finset.sum_congr rfl fun k _ => ?_
  have e1 : (⟨(4 * (t.val / 4) + s.val) / 4, by have := Nat.lt_of_lt_of_eq t.isLt N_0; omega⟩ : Fin 8) = batch t :=
    Fin.ext (show (4 * (t.val / 4) + s.val) / 4 = t.val / 4 by omega)
  have e2 : (⟨(4 * (t.val / 4) + s.val) % 4, by omega⟩ : Fin 4) = s := Fin.ext (show (4 * (t.val / 4) + s.val) % 4 = s.val by omega)
  simp only [c_at, e1, e2]

/-- The array of the sums of `c` after the region. -/
theorem arr9 : (dat V c).arrAt 9 cfg0.N = fun j : S8x512x1.Idx => ∑ l, C V c (ix3 (j 0) (j 1) l) := by
  refine (dat V c).arrAt_eq_of_covers 9 _ (by decide +kernel) fun t hf y => ?_
  blk_simp
  rw [after_9]
  have ht := (Gen.flush0_9 t).mp hf
  obtain ⟨e0, e1, e2⟩ := index_9 t
  obtain ⟨a, i, d, rfl⟩ : ∃ (a : Fin 1) (i : Fin 512) (d : Fin 1), y = ix3 a i d := ⟨y 0, y 1, y 2, eq_ix3 y⟩
  obtain rfl : a = 0 := Subsingleton.elim _ _
  obtain rfl : d = 0 := Subsingleton.elim _ _
  refine (out9_at V c t ht i).trans ?_
  have e3 : ((win0_9.blk t).view.emb (ix3 0 i 0)) 0 = batch t := by apply Fin.ext; blk_simp [e0]; exact Nat.add_zero _
  have e4 : ((win0_9.blk t).view.emb (ix3 0 i 0)) 1 = i := by apply Fin.ext; blk_simp [e1]
  simp only [e3, e4]

end Cert.KernelIdeal.StatsValue
-- ==== Proof.VScalars.lean ====
module

public import proofs.«01_k».proof.Proof.IScalars
public import proofs.«01_k».proof.Proof.Duan
public import Idealize.ShloMosaic.Lib.Pipeline.ValueKit
public import Idealize.ShloMosaic.Lib.Pointwise

/-!
What the second region leaves in its two result arrays, over the extended reals: the scale and the shift of each channel.
-/

@[expose] public section

set_option maxRecDepth 16384

noncomputable section

namespace Cert.KernelIdeal.ScalarsValue

open Cert.KernelIdeal Cert.KernelIdeal.Gen Cert.KernelIdeal.Scalars Idealize.ShloMosaic Idealize.ShloMosaic.TcCoe Idealize.SL.Sem
open Idealize.ShloMosaic.Pipeline (Dat)

section Payloads
variable (s1 s2 sg sc : Vec Ideal S8x512 .f32) (w1 : Vec Ideal S256x512 .bf16) (b1 : Vec Ideal S1x256 .f32) (w2 : Vec Ideal S1024x256 .bf16) (b2 : Vec Ideal S1x1024 .f32) (b : Fin 8) (i : Fin 512)

/-- A sum over the spatial axis, divided by its extent. -/
abbrev mean (s : Vec Ideal S8x512 .f32) (b : Fin 8) (i : Fin 512) : EReal := s (ix2 b i) * Duan.inv

theorem pay5_at : k1_pay5 s1 (ix2 b 0) = Duan.chanMean (mean s1 b) := by
  pointwise [k1_pay5, k1_pay4, Duan.chanMean]

theorem pay7_at : k1_pay7 s1 sg (ix2 b i) = Duan.muK (mean sg b) (mean s1 b) i := by
  pointwise [k1_pay7, k1_pay4, k1_pay6, Duan.muK, Duan.mix]
  rw [pay5_at]

theorem pay8_at : k1_pay8 s1 s2 sg (ix2 b i) = Duan.sigK (mean sg b) (mean s1 b) (mean s2 b) i := by
  pointwise [k1_pay8, k1_pay4, k1_pay6, Duan.sigK, Duan.mix]
  rw [pay5_at]
  rfl

theorem pay1_at (g : Fin 1024) : k1_pay1 sc w1 b1 w2 b2 (ix2 b g)
    = Duan.film (mean sc b) (fun h j => w1 (ix2 h j)) (fun h => b1 (ix2 0 h)) (fun k h => w2 (ix2 k h)) (fun k => b2 (ix2 0 k)) g := by
  pointwise [k1_pay1, Duan.film]

theorem pay2_at (s : FVec Ideal S8x512 .f32) : k1_pay2 s sc w1 b1 w2 b2 (ix2 b i)
    = Ideal.div (1 + k1_pay1 sc w1 b1 w2 b2 (ix2 b ⟨i.val, by omega⟩)) (s (ix2 b i)) := by
  pointwise [k1_pay2]

theorem pay3_at (s mu : FVec Ideal S8x512 .f32) : k1_pay3 mu s sc w1 b1 w2 b2 (ix2 b i)
    = k1_pay1 sc w1 b1 w2 b2 (ix2 b ⟨512 + i.val, by omega⟩) - k1_pay2 s sc w1 b1 w2 b2 (ix2 b i) * mu (ix2 b i) := by
  pointwise [k1_pay3]

end Payloads

variable (V : Dev nD → Valuation τ sig (Elt Ideal)) (c : Dev nD)

/-- The array of window 0 at the region's entry. -/
abbrev S1 : Vec Ideal S8x512 .f32 := V c (Proc.devRef .tc (Pipeline.arrRef spec1 0))

theorem index_0 : ∀ t : Fin cfg1.N, (cfg1.win 0).index t 0 = 0 ∧ (cfg1.win 0).index t 1 = 0 := by
  decide +kernel

/-- Window 0's one block is its array. -/
theorem blk_0 (t : Fin cfg1.N) : (iblk V c 0 t : Vec Ideal S8x512 .f32) = S1 V c := by
  funext j
  obtain ⟨a, b, rfl⟩ : ∃ (a : Fin 8) (b : Fin 512), j = ix2 a b := ⟨j 0, j 1, eq_ix2 j⟩
  obtain ⟨e0, e1⟩ := index_0 t
  unfold iblk S1
  blk_ext [e0, e1]

/-- The array of window 1 at the region's entry. -/
abbrev S2 : Vec Ideal S8x512 .f32 := V c (Proc.devRef .tc (Pipeline.arrRef spec1 1))

theorem index_1 : ∀ t : Fin cfg1.N, (cfg1.win 1).index t 0 = 0 ∧ (cfg1.win 1).index t 1 = 0 := by
  decide +kernel

/-- Window 1's one block is its array. -/
theorem blk_1 (t : Fin cfg1.N) : (iblk V c 1 t : Vec Ideal S8x512 .f32) = S2 V c := by
  funext j
  obtain ⟨a, b, rfl⟩ : ∃ (a : Fin 8) (b : Fin 512), j = ix2 a b := ⟨j 0, j 1, eq_ix2 j⟩
  obtain ⟨e0, e1⟩ := index_1 t
  unfold iblk S2
  blk_ext [e0, e1]

/-- The array of window 2 at the region's entry. -/
abbrev SG : Vec Ideal S8x512 .f32 := V c (Proc.devRef .tc (Pipeline.arrRef spec1 2))

theorem index_2 : ∀ t : Fin cfg1.N, (cfg1.win 2).index t 0 = 0 ∧ (cfg1.win 2).index t 1 = 0 := by
  decide +kernel

/-- Window 2's one block is its array. -/
theorem blk_2 (t : Fin cfg1.N) : (iblk V c 2 t : Vec Ideal S8x512 .f32) = SG V c := by
  funext j
  obtain ⟨a, b, rfl⟩ : ∃ (a : Fin 8) (b : Fin 512), j = ix2 a b := ⟨j 0, j 1, eq_ix2 j⟩
  obtain ⟨e0, e1⟩ := index_2 t
  unfold iblk SG
  blk_ext [e0, e1]

/-- The array of window 3 at the region's entry. -/
abbrev SC : Vec Ideal S8x512 .f32 := V c (Proc.devRef .tc (Pipeline.arrRef spec1 3))

theorem index_3 : ∀ t : Fin cfg1.N, (cfg1.win 3).index t 0 = 0 ∧ (cfg1.win 3).index t 1 = 0 := by
  decide +kernel

/-- Window 3's one block is its array. -/
theorem blk_3 (t : Fin cfg1.N) : (iblk V c 3 t : Vec Ideal S8x512 .f32) = SC V c := by
  funext j
  obtain ⟨a, b, rfl⟩ : ∃ (a : Fin 8) (b : Fin 512), j = ix2 a b := ⟨j 0, j 1, eq_ix2 j⟩
  obtain ⟨e0, e1⟩ := index_3 t
  unfold iblk SC
  blk_ext [e0, e1]

/-- The array of window 4 at the region's entry. -/
abbrev W1 : Vec Ideal S256x512 .bf16 := V c (Proc.devRef .tc (Pipeline.arrRef spec1 4))

theorem index_4 : ∀ t : Fin cfg1.N, (cfg1.win 4).index t 0 = 0 ∧ (cfg1.win 4).index t 1 = 0 := by
  decide +kernel

/-- Window 4's one block is its array. -/
theorem blk_4 (t : Fin cfg1.N) : (iblk V c 4 t : Vec Ideal S256x512 .bf16) = W1 V c := by
  funext j
  obtain ⟨a, b, rfl⟩ : ∃ (a : Fin 256) (b : Fin 512), j = ix2 a b := ⟨j 0, j 1, eq_ix2 j⟩
  obtain ⟨e0, e1⟩ := index_4 t
  unfold iblk W1
  blk_ext [e0, e1]

/-- The array of window 5 at the region's entry. -/
abbrev B1 : Vec Ideal S1x256 .f32 := V c (Proc.devRef .tc (Pipeline.arrRef spec1 5))

theorem index_5 : ∀ t : Fin cfg1.N, (cfg1.win 5).index t 0 = 0 ∧ (cfg1.win 5).index t 1 = 0 := by
  decide +kernel

/-- Window 5's one block is its array. -/
theorem blk_5 (t : Fin cfg1.N) : (iblk V c 5 t : Vec Ideal S1x256 .f32) = B1 V c := by
  funext j
  obtain ⟨a, b, rfl⟩ : ∃ (a : Fin 1) (b : Fin 256), j = ix2 a b := ⟨j 0, j 1, eq_ix2 j⟩
  obtain ⟨e0, e1⟩ := index_5 t
  unfold iblk B1
  blk_ext [e0, e1]

/-- The array of window 6 at the region's entry. -/
abbrev W2 : Vec Ideal S1024x256 .bf16 := V c (Proc.devRef .tc (Pipeline.arrRef spec1 6))

theorem index_6 : ∀ t : Fin cfg1.N, (cfg1.win 6).index t 0 = 0 ∧ (cfg1.win 6).index t 1 = 0 := by
  decide +kernel

/-- Window 6's one block is its array. -/
theorem blk_6 (t : Fin cfg1.N) : (iblk V c 6 t : Vec Ideal S1024x256 .bf16) = W2 V c := by
  funext j
  obtain ⟨a, b, rfl⟩ : ∃ (a : Fin 1024) (b : Fin 256), j = ix2 a b := ⟨j 0, j 1, eq_ix2 j⟩
  obtain ⟨e0, e1⟩ := index_6 t
  unfold iblk W2
  blk_ext [e0, e1]

/-- The array of window 7 at the region's entry. -/
abbrev B2 : Vec Ideal S1x1024 .f32 := V c (Proc.devRef .tc (Pipeline.arrRef spec1 7))

theorem index_7 : ∀ t : Fin cfg1.N, (cfg1.win 7).index t 0 = 0 ∧ (cfg1.win 7).index t 1 = 0 := by
  decide +kernel

/-- Window 7's one block is its array. -/
theorem blk_7 (t : Fin cfg1.N) : (iblk V c 7 t : Vec Ideal S1x1024 .f32) = B2 V c := by
  funext j
  obtain ⟨a, b, rfl⟩ : ∃ (a : Fin 1) (b : Fin 1024), j = ix2 a b := ⟨j 0, j 1, eq_ix2 j⟩
  obtain ⟨e0, e1⟩ := index_7 t
  unfold iblk B2
  blk_ext [e0, e1]

theorem index_8 : ∀ t : Fin cfg1.N, (cfg1.win 8).index t 0 = 0 ∧ (cfg1.win 8).index t 1 = 0 := by
  decide +kernel

/-- The array of the scales after the region. -/
theorem arr8 : (dat V c).arrAt 8 cfg1.N = k1_pay2 (k1_pay8 (S1 V c) (S2 V c) (SG V c)) (SC V c) (W1 V c) (B1 V c) (W2 V c) (B2 V c) := by
  refine (dat V c).arrAt_eq_of_covers 8 _ (by decide +kernel) fun t hf y => ?_
  blk_simp
  rw [after_8]
  unfold out8
  rw [blk_0, blk_1, blk_2, blk_3, blk_4, blk_5, blk_6, blk_7]
  obtain ⟨a, b, rfl⟩ : ∃ (a : Fin 8) (b : Fin 512), y = ix2 a b := ⟨y 0, y 1, eq_ix2 y⟩
  obtain ⟨e0, e1⟩ := index_8 t
  congr 1
  blk_ext [e0, e1]

theorem index_9 : ∀ t : Fin cfg1.N, (cfg1.win 9).index t 0 = 0 ∧ (cfg1.win 9).index t 1 = 0 := by
  decide +kernel

/-- The array of the shifts after the region. -/
theorem arr9 : (dat V c).arrAt 9 cfg1.N = k1_pay3 (k1_pay7 (S1 V c) (SG V c)) (k1_pay8 (S1 V c) (S2 V c) (SG V c)) (SC V c) (W1 V c) (B1 V c) (W2 V c) (B2 V c) := by
  refine (dat V c).arrAt_eq_of_covers 9 _ (by decide +kernel) fun t hf y => ?_
  blk_simp
  rw [after_9]
  unfold out9
  rw [blk_0, blk_1, blk_2, blk_3, blk_4, blk_5, blk_6, blk_7]
  obtain ⟨a, b, rfl⟩ : ∃ (a : Fin 8) (b : Fin 512), y = ix2 a b := ⟨y 0, y 1, eq_ix2 y⟩
  obtain ⟨e0, e1⟩ := index_9 t
  congr 1
  blk_ext [e0, e1]

end Cert.KernelIdeal.ScalarsValue
-- ==== Proof.VImp.lean ====
module

public import proofs.«01_k».proof.Proof.IImp
public import proofs.«01_k».proof.Proof.Duan
public import Idealize.ShloMosaic.Lib.Pipeline.ValueKit
public import Idealize.ShloMosaic.Lib.Pointwise

/-!
What the third region leaves in its two result arrays, over the extended reals: the scaled and shifted array, and for each channel the sum of
its magnitudes.
-/

@[expose] public section

set_option maxRecDepth 16384

noncomputable section

namespace Cert.KernelIdeal.ImpValue

open Cert.KernelIdeal Cert.KernelIdeal.Gen Cert.KernelIdeal.Imp Idealize.ShloMosaic Idealize.ShloMosaic.TcCoe Idealize.SL.Sem
open Idealize.ShloMosaic.Pipeline (Dat)

variable (V : Dev nD → Valuation τ sig (Elt Ideal)) (c : Dev nD)

/-- The place of lane `k` of block `s` on the spatial axis. -/
abbrev lane (s : Fin 4) (k : Fin 4096) : Fin 16384 := ⟨s.val * 4096 + k.val, by omega⟩
/-- The batch entry of a grid point. -/
abbrev batch (t : Fin cfg2.N) : Fin 8 := ⟨t.val / 4, by have := Nat.lt_of_lt_of_eq t.isLt N_2; omega⟩
/-- The block of a grid point on the spatial axis. -/
abbrev part (t : Fin cfg2.N) : Fin 4 := ⟨t.val % 4, by omega⟩

theorem index_0 : ∀ t : Fin cfg2.N, (cfg2.win 0).index t 0 = t.val / 4 ∧ (cfg2.win 0).index t 1 = 0 ∧ (cfg2.win 0).index t 2 = t.val % 4 := by
  decide +kernel
theorem index_4 : ∀ t : Fin cfg2.N, (cfg2.win 4).index t 0 = t.val / 4 ∧ (cfg2.win 4).index t 1 = 0 ∧ (cfg2.win 4).index t 2 = t.val % 4 := by
  decide +kernel
theorem index_1 : ∀ t : Fin cfg2.N, (cfg2.win 1).index t 0 = t.val / 4 ∧ (cfg2.win 1).index t 1 = 0 ∧ (cfg2.win 1).index t 2 = 0 := by
  decide +kernel
theorem index_2 : ∀ t : Fin cfg2.N, (cfg2.win 2).index t 0 = t.val / 4 ∧ (cfg2.win 2).index t 1 = 0 ∧ (cfg2.win 2).index t 2 = 0 := by
  decide +kernel
theorem index_3 : ∀ t : Fin cfg2.N, (cfg2.win 3).index t 0 = t.val / 4 ∧ (cfg2.win 3).index t 1 = 0 ∧ (cfg2.win 3).index t 2 = 0 := by
  decide +kernel

/-- The array of the data at the region's entry. -/
abbrev X : Vec Ideal S8x512x16384 .f32 := V c (Proc.devRef .tc (Pipeline.arrRef spec2 0))
/-- A block of the data. -/
abbrev XB (t : Fin cfg2.N) : Vec Ideal S1x512x4096 .f32 := iblk V c 0 t

theorem x_at (t : Fin cfg2.N) (i : Fin 512) (k : Fin 4096) : XB V c t (ix3 0 i k) = X V c (ix3 (batch t) i (lane (part t) k)) := by
  obtain ⟨e0, e1, e2⟩ := index_0 t
  unfold XB iblk X
  blk_ext [e0, e1, e2]

/-- The array of the scales at the region's entry. -/
abbrev A : Vec Ideal S8x512x1 .f32 := V c (Proc.devRef .tc (Pipeline.arrRef spec2 1))
/-- A block of the scales. -/
abbrev AB (t : Fin cfg2.N) : Vec Ideal S1x512x1 .f32 := iblk V c 1 t

theorem a_at (t : Fin cfg2.N) (i : Fin 512) : AB V c t (ix3 0 i 0) = A V c (ix3 (batch t) i 0) := by
  obtain ⟨e0, e1, e2⟩ := index_1 t
  unfold AB iblk A
  blk_ext [e0, e1, e2]

/-- The array of the shifts at the region's entry. -/
abbrev B : Vec Ideal S8x512x1 .f32 := V c (Proc.devRef .tc (Pipeline.arrRef spec2 2))
/-- A block of the shifts. -/
abbrev BB (t : Fin cfg2.N) : Vec Ideal S1x512x1 .f32 := iblk V c 2 t

theorem b_at (t : Fin cfg2.N) (i : Fin 512) : BB V c t (ix3 0 i 0) = B V c (ix3 (batch t) i 0) := by
  obtain ⟨e0, e1, e2⟩ := index_2 t
  unfold BB iblk B
  blk_ext [e0, e1, e2]

section Payloads
variable (a : Vec Ideal S1x512x1 .f32) (x : Vec Ideal S1x512x4096 .f32) (b : Vec Ideal S1x512x1 .f32) (i : Fin 512)

theorem pay2_at (k : Fin 4096) : k2_pay2 a x b (ix3 0 i k) = a (ix3 0 i 0) * x (ix3 0 i k) + b (ix3 0 i 0) := by
  pointwise [k2_pay2, k2_pay1]

theorem pay4_at : k2_pay4 a x b (ix3 0 i 0)
    = ∑ k : Fin 4096, FloatOps.absf (F := Ideal) (φ := .f32) (a (ix3 0 i 0) * x (ix3 0 i k) + b (ix3 0 i 0)) := by
  pointwise [k2_pay4, k2_pay3, k2_pay1]

theorem pay5_at (p : Vec Ideal S1x512x1 .f32) : k2_pay5 a x b p (ix3 0 i 0)
    = p (ix3 0 i 0) + ∑ k : Fin 4096, FloatOps.absf (F := Ideal) (φ := .f32) (a (ix3 0 i 0) * x (ix3 0 i k) + b (ix3 0 i 0)) := by
  pointwise [k2_pay5, k2_pay3, k2_pay1]

end Payloads

/-- A sum over the blocks and their lanes is a sum over the axis. -/
theorem sum_lanes (f : Fin 16384 → EReal) : ∑ s : Fin 4, ∑ k : Fin 4096, f (lane s k) = ∑ l, f l := by
  exact Fin.sum_mul_add_fin 4 4096 f rfl

/-- The scaled and shifted value at one place. -/
abbrev yAt (b : Fin 8) (i : Fin 512) (l : Fin 16384) : EReal := A V c (ix3 b i 0) * X V c (ix3 b i l) + B V c (ix3 b i 0)

/-- The sums of the magnitudes: what the window holds at the last block of a batch entry. -/
theorem out3_at (t : Fin cfg2.N) (ht : t.val % 4 = 4 - 1) (i : Fin 512) :
    out3 V c t.val t.isLt (ix3 0 i 0) = ∑ l, FloatOps.absf (F := Ideal) (φ := .f32) (yAt V c (batch t) i l) := by
  have h := Pipeline.eq_sum_fin_of_reset_step_apply_of_flush (N := cfg2.N) (fun n h (i : Fin 512) => out3 V c n h (ix3 0 i 0)) 4 (fun _ => 0)
    (fun t i => ∑ k : Fin 4096, FloatOps.absf (F := Ideal) (φ := .f32) (AB V c t (ix3 0 i 0) * XB V c t (ix3 0 i k) + BB V c t (ix3 0 i 0)))
    (fun t h0 i => by rw [out3_first V c t h0, pay4_at, zero_add])
    (fun t h0 i => by rw [out3_next V c t h0, pay5_at]) t ht i
  refine h.trans ?_
  rw [zero_add, ← sum_lanes]
  refine Finset.sum_congr rfl fun s _ => Finset.sum_congr rfl fun k _ => ?_
  have e1 : batch (⟨4 * (t.val / 4) + s.val, Nat.lt_of_lt_of_eq (by have := Nat.lt_of_lt_of_eq t.isLt N_2; omega : _ < 32) N_2.symm⟩ : Fin cfg2.N) = batch t :=
    Fin.ext (show (4 * (t.val / 4) + s.val) / 4 = t.val / 4 by omega)
  have e2 : part (⟨4 * (t.val / 4) + s.val, Nat.lt_of_lt_of_eq (by have := Nat.lt_of_lt_of_eq t.isLt N_2; omega : _ < 32) N_2.symm⟩ : Fin cfg2.N) = s :=
    Fin.ext (show (4 * (t.val / 4) + s.val) % 4 = s.val by omega)
  rw [x_at, a_at, b_at, e1, e2]

/-- The array of the sums of the magnitudes after the region. -/
theorem arr3 : (dat V c).arrAt 3 cfg2.N
    = fun j : S8x512x1.Idx => ∑ l, FloatOps.absf (F := Ideal) (φ := .f32) (yAt V c (j 0) (j 1) l) := by
  refine (dat V c).arrAt_eq_of_covers 3 _ (by decide +kernel) fun t hf y => ?_
  blk_simp
  rw [after_3]
  have ht := (Gen.flush2_3 t).mp hf
  obtain ⟨e0, e1, e2⟩ := index_3 t
  obtain ⟨a, i, d, rfl⟩ : ∃ (a : Fin 1) (i : Fin 512) (d : Fin 1), y = ix3 a i d := ⟨y 0, y 1, y 2, eq_ix3 y⟩
  obtain rfl : a = 0 := Subsingleton.elim _ _
  obtain rfl : d = 0 := Subsingleton.elim _ _
  refine (out3_at V c t ht i).trans ?_
  have e3 : ((win2_3.blk t).view.emb (ix3 0 i 0)) 0 = batch t := by apply Fin.ext; blk_simp [e0]; exact Nat.add_zero _
  have e4 : ((win2_3.blk t).view.emb (ix3 0 i 0)) 1 = i := by apply Fin.ext; blk_simp [e1]
  simp only [e3, e4]

/-- The scaled and shifted array after the region. -/
theorem arr4 : (dat V c).arrAt 4 cfg2.N = fun j : S8x512x16384.Idx => yAt V c (j 0) (j 1) (j 2) := by
  refine (dat V c).arrAt_eq_of_covers 4 _ (by decide +kernel) fun t hf y => ?_
  blk_simp
  rw [after_4]
  obtain ⟨e0, e1, e2⟩ := index_4 t
  obtain ⟨a, i, k, rfl⟩ : ∃ (a : Fin 1) (i : Fin 512) (k : Fin 4096), y = ix3 a i k := ⟨y 0, y 1, y 2, eq_ix3 y⟩
  obtain rfl : a = 0 := Subsingleton.elim _ _
  have e3 : ((win2_4.blk t).view.emb (ix3 0 i k)) 0 = batch t := by apply Fin.ext; blk_simp [e0]; exact Nat.add_zero _
  have e4 : ((win2_4.blk t).view.emb (ix3 0 i k)) 1 = i := by apply Fin.ext; blk_simp [e1]
  have e5 : ((win2_4.blk t).view.emb (ix3 0 i k)) 2 = lane (part t) k := by apply Fin.ext; blk_simp [e2]
  simp only [e3, e4, e5]
  unfold out4
  refine (pay2_at _ _ _ i k).trans ?_
  unfold yAt
  rw [← x_at, ← a_at, ← b_at]

end Cert.KernelIdeal.ImpValue
-- ==== Proof.VRun.lean ====
module

public import proofs.«01_k».proof.Proof.IRun
public import proofs.«01_k».proof.Proof.VStats
public import proofs.«01_k».proof.Proof.VScalars
public import proofs.«01_k».proof.Proof.VImp
public import proofs.«01_k».proof.Proof.Duan
public import Idealize.ShloMosaic.Lib.Pipeline.ValueKit
public import Idealize.ShloMosaic.Lib.Pointwise
public import Idealize.ShloMosaic.Lib.StableHlo.Run

/-!
The two results of the run in terms of the arguments, over the extended reals: each region's value, read through the host operations
between the regions.
-/

@[expose] public section

set_option maxRecDepth 16384

noncomputable section

namespace Cert.KernelIdeal.RunValue

open Idealize.ShloMosaic Idealize.ShloMosaic.TcCoe Idealize.ShloMosaic.Tactic
open Idealize.ShloMosaic.Pipeline (Dat afterRegion arrRef)
open Cert.KernelIdeal.Gen Cert.KernelIdeal.Run

variable (m : (ℓ : Loc nD τ sig) → Buf (Elt Ideal) ℓ) (c : Dev nD)

/-! ### The arguments -/

abbrev a0 : FVec Ideal S8x512x16384 .f32 := m ((c.tc : Thread nD τ).loc main_arg0)
abbrev a1 : FVec Ideal S8x512x16384 .f32 := m ((c.tc : Thread nD τ).loc main_arg1)
abbrev a2 : FVec Ideal S256x512 .f32 := m ((c.tc : Thread nD τ).loc main_arg2)
abbrev a3 : FVec Ideal S256 .f32 := m ((c.tc : Thread nD τ).loc main_arg3)
abbrev a4 : FVec Ideal S512x256 .f32 := m ((c.tc : Thread nD τ).loc main_arg4)
abbrev a5 : FVec Ideal S512 .f32 := m ((c.tc : Thread nD τ).loc main_arg5)
abbrev a6 : FVec Ideal S256x512 .f32 := m ((c.tc : Thread nD τ).loc main_arg6)
abbrev a7 : FVec Ideal S256 .f32 := m ((c.tc : Thread nD τ).loc main_arg7)
abbrev a8 : FVec Ideal S1024x256 .f32 := m ((c.tc : Thread nD τ).loc main_arg8)
abbrev a9 : FVec Ideal S1024 .f32 := m ((c.tc : Thread nD τ).loc main_arg9)

/-! ### The first line of host operations -/

theorem v0_at (h : Fin 256) (j : Fin 512) : (w0 m c (Proc.devRef .tc main_v0) : FVec Ideal S256x512 .bf16) (ix2 h j) = a2 m c (ix2 h j) := by
  have e : w0 m c (Proc.devRef .tc main_v0) = truncf .bf16 (a2 m c) bitsLt_bf16_f32 := by unfold w0; after_results
  rw [e]; rfl

theorem v1_at (h : Fin 512) (j : Fin 256) : (w0 m c (Proc.devRef .tc main_v1) : FVec Ideal S512x256 .bf16) (ix2 h j) = a4 m c (ix2 h j) := by
  have e : w0 m c (Proc.devRef .tc main_v1) = truncf .bf16 (a4 m c) bitsLt_bf16_f32 := by unfold w0; after_results
  rw [e]; rfl

theorem v2_at (h : Fin 256) (j : Fin 512) : (w0 m c (Proc.devRef .tc main_v2) : FVec Ideal S256x512 .bf16) (ix2 h j) = a6 m c (ix2 h j) := by
  have e : w0 m c (Proc.devRef .tc main_v2) = truncf .bf16 (a6 m c) bitsLt_bf16_f32 := by unfold w0; after_results
  rw [e]; rfl

theorem v3_at (h : Fin 1024) (j : Fin 256) : (w0 m c (Proc.devRef .tc main_v3) : FVec Ideal S1024x256 .bf16) (ix2 h j) = a8 m c (ix2 h j) := by
  have e : w0 m c (Proc.devRef .tc main_v3) = truncf .bf16 (a8 m c) bitsLt_bf16_f32 := by unfold w0; after_results
  rw [e]; rfl

theorem v4_at (h : Fin 256) : (w0 m c (Proc.devRef .tc main_v4) : FVec Ideal S256x1 .f32) (ix2 h 0) = a3 m c (ix1 h) := by
  have e : w0 m c (Proc.devRef .tc main_v4) = shapeCast S256x1 (a3 m c) shapeCasts_S256_S256x1 := by unfold w0; after_results; rfl
  rw [e]; pointwise []

theorem v5_at (h : Fin 512) : (w0 m c (Proc.devRef .tc main_v5) : FVec Ideal S512x1 .f32) (ix2 h 0) = a5 m c (ix1 h) := by
  have e : w0 m c (Proc.devRef .tc main_v5) = shapeCast S512x1 (a5 m c) shapeCasts_S512_S512x1 := by unfold w0; after_results; rfl
  rw [e]; pointwise []

theorem v6_at (h : Fin 256) : (w0 m c (Proc.devRef .tc main_v6) : FVec Ideal S1x256 .f32) (ix2 0 h) = a7 m c (ix1 h) := by
  have e : w0 m c (Proc.devRef .tc main_v6) = shapeCast S1x256 (a7 m c) shapeCasts_S256_S1x256 := by unfold w0; after_results; rfl
  rw [e]; pointwise []

theorem v7_at (h : Fin 1024) : (w0 m c (Proc.devRef .tc main_v7) : FVec Ideal S1x1024 .f32) (ix2 0 h) = a9 m c (ix1 h) := by
  have e : w0 m c (Proc.devRef .tc main_v7) = shapeCast S1x1024 (a9 m c) shapeCasts_S1024_S1x1024 := by unfold w0; after_results; rfl
  rw [e]; pointwise []

/-! ### The second line of host operations: the sums of the first region, read by the second -/

theorem s1_at (b : Fin 8) (i : Fin 512) : ScalarsValue.S1 (w1 m) c (ix2 b i) = ((Stats.dat (w0 m) c).arrAt 6 cfg0.N : FVec Ideal S8x512x1 .f32) (ix3 b i 0) := by
  have e : ScalarsValue.S1 (w1 m) c = shapeCast S8x512 ((afterRegion (Stats.dat (w0 m) c) (w0 m c)) (Proc.devRef .tc main_v8_0) : FVec Ideal S8x512x1 .f32) shapeCasts_S8x512x1_S8x512 := by
    unfold ScalarsValue.S1 w1; after_results; rfl
  have r : (afterRegion (Stats.dat (w0 m) c) (w0 m c)) (Proc.devRef .tc main_v8_0) = (Stats.dat (w0 m) c).arrAt 6 cfg0.N := Pipeline.afterRegion_arr (cfg := cfg0) (Stats.dat (w0 m) c) (w0 m c) winFacts0.arr_inj 6
  rw [e, r]; pointwise []

theorem s2_at (b : Fin 8) (i : Fin 512) : ScalarsValue.S2 (w1 m) c (ix2 b i) = ((Stats.dat (w0 m) c).arrAt 7 cfg0.N : FVec Ideal S8x512x1 .f32) (ix3 b i 0) := by
  have e : ScalarsValue.S2 (w1 m) c = shapeCast S8x512 ((afterRegion (Stats.dat (w0 m) c) (w0 m c)) (Proc.devRef .tc main_v8_1) : FVec Ideal S8x512x1 .f32) shapeCasts_S8x512x1_S8x512 := by
    unfold ScalarsValue.S2 w1; after_results; rfl
  have r : (afterRegion (Stats.dat (w0 m) c) (w0 m c)) (Proc.devRef .tc main_v8_1) = (Stats.dat (w0 m) c).arrAt 7 cfg0.N := Pipeline.afterRegion_arr (cfg := cfg0) (Stats.dat (w0 m) c) (w0 m c) winFacts0.arr_inj 7
  rw [e, r]; pointwise []

theorem sg_at (b : Fin 8) (i : Fin 512) : ScalarsValue.SG (w1 m) c (ix2 b i) = ((Stats.dat (w0 m) c).arrAt 8 cfg0.N : FVec Ideal S8x512x1 .f32) (ix3 b i 0) := by
  have e : ScalarsValue.SG (w1 m) c = shapeCast S8x512 ((afterRegion (Stats.dat (w0 m) c) (w0 m c)) (Proc.devRef .tc main_v8_2) : FVec Ideal S8x512x1 .f32) shapeCasts_S8x512x1_S8x512 := by
    unfold ScalarsValue.SG w1; after_results; rfl
  have r : (afterRegion (Stats.dat (w0 m) c) (w0 m c)) (Proc.devRef .tc main_v8_2) = (Stats.dat (w0 m) c).arrAt 8 cfg0.N := Pipeline.afterRegion_arr (cfg := cfg0) (Stats.dat (w0 m) c) (w0 m c) winFacts0.arr_inj 8
  rw [e, r]; pointwise []

theorem sc_at (b : Fin 8) (i : Fin 512) : ScalarsValue.SC (w1 m) c (ix2 b i) = ((Stats.dat (w0 m) c).arrAt 9 cfg0.N : FVec Ideal S8x512x1 .f32) (ix3 b i 0) := by
  have e : ScalarsValue.SC (w1 m) c = shapeCast S8x512 ((afterRegion (Stats.dat (w0 m) c) (w0 m c)) (Proc.devRef .tc main_v8_3) : FVec Ideal S8x512x1 .f32) shapeCasts_S8x512x1_S8x512 := by
    unfold ScalarsValue.SC w1; after_results; rfl
  have r : (afterRegion (Stats.dat (w0 m) c) (w0 m c)) (Proc.devRef .tc main_v8_3) = (Stats.dat (w0 m) c).arrAt 9 cfg0.N := Pipeline.afterRegion_arr (cfg := cfg0) (Stats.dat (w0 m) c) (w0 m c) winFacts0.arr_inj 9
  rw [e, r]; pointwise []

/-! ### The second line leaves the weights of the second region -/

theorem w1_at (h : Fin 256) (j : Fin 512) : ScalarsValue.W1 (w1 m) c (ix2 h j) = a6 m c (ix2 h j) := by
  have e : w1 m c (Proc.devRef .tc main_v2) = w0 m c (Proc.devRef .tc main_v2) := (line1_keeps m c main_v2 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
      (region0_keeps m c main_v2 (by decide))
  exact (congrFun e _).trans (v2_at m c h j)

theorem b1_at (h : Fin 256) : ScalarsValue.B1 (w1 m) c (ix2 0 h) = a7 m c (ix1 h) := by
  have e : w1 m c (Proc.devRef .tc main_v6) = w0 m c (Proc.devRef .tc main_v6) := (line1_keeps m c main_v6 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
      (region0_keeps m c main_v6 (by decide))
  exact (congrFun e _).trans (v6_at m c h)

theorem w2_at (h : Fin 1024) (j : Fin 256) : ScalarsValue.W2 (w1 m) c (ix2 h j) = a8 m c (ix2 h j) := by
  have e : w1 m c (Proc.devRef .tc main_v3) = w0 m c (Proc.devRef .tc main_v3) := (line1_keeps m c main_v3 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
      (region0_keeps m c main_v3 (by decide))
  exact (congrFun e _).trans (v3_at m c h j)

theorem b2_at (h : Fin 1024) : ScalarsValue.B2 (w1 m) c (ix2 0 h) = a9 m c (ix1 h) := by
  have e : w1 m c (Proc.devRef .tc main_v7) = w0 m c (Proc.devRef .tc main_v7) := (line1_keeps m c main_v7 (by
    simp only [hostOps1, List.Forall, StableHlo.unary_writes, StableHlo.reshape_writes, Finset.mem_singleton]
    exact ⟨StableHlo.devRef_ne_of_ne (by decide), StableHlo.devRef_ne_of_ne (by decide), StableHlo.devRef_ne_of_ne (by decide), StableHlo.devRef_ne_of_ne (by decide)⟩)).trans
      (region0_keeps m c main_v7 (by decide))
  exact (congrFun e _).trans (v7_at m c h)

/-! ### The third line of host operations: the scales and the shifts of the second region, read by the third -/

theorem a_at (b : Fin 8) (i : Fin 512) : ImpValue.A (w2 m) c (ix3 b i 0) = ((Scalars.dat (w1 m) c).arrAt 8 cfg1.N : FVec Ideal S8x512 .f32) (ix2 b i) := by
  have e : ImpValue.A (w2 m) c = shapeCast S8x512x1 ((afterRegion (Scalars.dat (w1 m) c) (w1 m c)) (Proc.devRef .tc main_v13_0) : FVec Ideal S8x512 .f32) shapeCasts_S8x512_S8x512x1 := by
    unfold ImpValue.A w2; after_results; rfl
  have r : (afterRegion (Scalars.dat (w1 m) c) (w1 m c)) (Proc.devRef .tc main_v13_0) = (Scalars.dat (w1 m) c).arrAt 8 cfg1.N := Pipeline.afterRegion_arr (cfg := cfg1) (Scalars.dat (w1 m) c) (w1 m c) winFacts1.arr_inj 8
  rw [e, r]; pointwise []

theorem b_at (b : Fin 8) (i : Fin 512) : ImpValue.B (w2 m) c (ix3 b i 0) = ((Scalars.dat (w1 m) c).arrAt 9 cfg1.N : FVec Ideal S8x512 .f32) (ix2 b i) := by
  have e : ImpValue.B (w2 m) c = shapeCast S8x512x1 ((afterRegion (Scalars.dat (w1 m) c) (w1 m c)) (Proc.devRef .tc main_v13_1) : FVec Ideal S8x512 .f32) shapeCasts_S8x512_S8x512x1 := by
    unfold ImpValue.B w2; after_results; rfl
  have r : (afterRegion (Scalars.dat (w1 m) c) (w1 m c)) (Proc.devRef .tc main_v13_1) = (Scalars.dat (w1 m) c).arrAt 9 cfg1.N := Pipeline.afterRegion_arr (cfg := cfg1) (Scalars.dat (w1 m) c) (w1 m c) winFacts1.arr_inj 9
  rw [e, r]; pointwise []

/-! ### The averages -/

/-- One batch entry of an array. -/
abbrev entry (x : FVec Ideal S8x512x16384 .f32) (b : Fin 8) : Fin 512 → Fin 16384 → EReal := fun i l => x (ix3 b i l)

/-- The gates of one batch entry. -/
abbrev gates (b : Fin 8) : Fin 512 → Fin 16384 → EReal :=
  Duan.gate (entry (a1 m c) b) (fun h j => a2 m c (ix2 h j)) (fun h => a3 m c (ix1 h)) (fun i h => a4 m c (ix2 i h)) (fun i => a5 m c (ix1 i))

theorem stats_x : StatsValue.X (w0 m) c = a0 m c := w0_arg0 m c
theorem stats_c : StatsValue.C (w0 m) c = a1 m c := w0_arg1 m c

theorem stats_gate (b : Fin 8) (i : Fin 512) (l : Fin 16384) : StatsValue.gateAt (w0 m) c b i l = gates m c b i l := by
  have h0 : (fun h j => StatsValue.GW1 (w0 m) c (ix2 h j)) = fun (h : Fin 256) (j : Fin 512) => a2 m c (ix2 h j) := funext fun h => funext fun j => v0_at m c h j
  have h1 : (fun h => StatsValue.GB1 (w0 m) c (ix2 h 0)) = fun (h : Fin 256) => a3 m c (ix1 h) := funext fun h => v4_at m c h
  have h2 : (fun i h => StatsValue.GW2 (w0 m) c (ix2 i h)) = fun (i : Fin 512) (h : Fin 256) => a4 m c (ix2 i h) := funext fun h => funext fun j => v1_at m c h j
  have h3 : (fun i => StatsValue.GB2 (w0 m) c (ix2 i 0)) = fun (i : Fin 512) => a5 m c (ix1 i) := funext fun h => v5_at m c h
  unfold StatsValue.gateAt gates
  rw [h0, h1, h2, h3, stats_c]

theorem mean_s1 (b : Fin 8) : ScalarsValue.mean (ScalarsValue.S1 (w1 m) c) b = Duan.meanC (entry (a0 m c) b) := by
  funext i
  have h := s1_at m c b i
  rw [StatsValue.arr6] at h
  unfold ScalarsValue.mean Duan.meanC
  rw [h, Duan.div_len, stats_x]; rfl
theorem mean_s2 (b : Fin 8) : ScalarsValue.mean (ScalarsValue.S2 (w1 m) c) b = Duan.meanC (fun i l => entry (a0 m c) b i l * entry (a0 m c) b i l) := by
  funext i
  have h := s2_at m c b i
  rw [StatsValue.arr7] at h
  unfold ScalarsValue.mean Duan.meanC
  rw [h, Duan.div_len, stats_x]; rfl
theorem mean_sg (b : Fin 8) : ScalarsValue.mean (ScalarsValue.SG (w1 m) c) b = Duan.meanC (gates m c b) := by
  funext i
  have h := sg_at m c b i
  rw [StatsValue.arr8] at h
  unfold ScalarsValue.mean Duan.meanC
  rw [h, Duan.div_len]
  refine congrArg (· * Duan.inv) (Finset.sum_congr rfl fun l _ => stats_gate m c b i l)
theorem mean_sc (b : Fin 8) : ScalarsValue.mean (ScalarsValue.SC (w1 m) c) b = Duan.meanC (entry (a1 m c) b) := by
  funext i
  have h := sc_at m c b i
  rw [StatsValue.arr9] at h
  unfold ScalarsValue.mean Duan.meanC
  rw [h, Duan.div_len, stats_c]; rfl

/-! ### The scales, the shifts and the results -/

/-- The modulation of one batch entry. -/
abbrev film (b : Fin 8) (k : Fin 1024) : EReal :=
  Duan.film (Duan.meanC (entry (a1 m c) b)) (fun h j => a6 m c (ix2 h j)) (fun h => a7 m c (ix1 h)) (fun k h => a8 m c (ix2 k h)) (fun k => a9 m c (ix1 k)) k
/-- The mixed mean as the kernel has it. -/
abbrev mu (b : Fin 8) (i : Fin 512) : EReal := Duan.muK (Duan.meanC (gates m c b)) (Duan.meanC (entry (a0 m c) b)) i
/-- The mixed deviation as the kernel has it. -/
abbrev sd (b : Fin 8) (i : Fin 512) : EReal :=
  Duan.sigK (Duan.meanC (gates m c b)) (Duan.meanC (entry (a0 m c) b)) (Duan.meanC (fun i l => entry (a0 m c) b i l * entry (a0 m c) b i l)) i
/-- The scale. -/
abbrev scale (b : Fin 8) (i : Fin 512) : EReal := Ideal.div (1 + film m c b ⟨i.val, by omega⟩) (sd m c b i)
/-- The shift. -/
abbrev shift (b : Fin 8) (i : Fin 512) : EReal := film m c b ⟨512 + i.val, by omega⟩ - scale m c b i * mu m c b i
/-- The adapted data. -/
abbrev adapted (b : Fin 8) (i : Fin 512) (l : Fin 16384) : EReal := scale m c b i * a0 m c (ix3 b i l) + shift m c b i

theorem film_at (b : Fin 8) (k : Fin 1024) :
    k1_pay1 (ScalarsValue.SC (w1 m) c) (ScalarsValue.W1 (w1 m) c) (ScalarsValue.B1 (w1 m) c) (ScalarsValue.W2 (w1 m) c) (ScalarsValue.B2 (w1 m) c) (ix2 b k) = film m c b k := by
  have h0 : (fun h j => ScalarsValue.W1 (w1 m) c (ix2 h j)) = fun (h : Fin 256) (j : Fin 512) => a6 m c (ix2 h j) := funext fun h => funext fun j => w1_at m c h j
  have h1 : (fun h => ScalarsValue.B1 (w1 m) c (ix2 0 h)) = fun (h : Fin 256) => a7 m c (ix1 h) := funext fun h => b1_at m c h
  have h2 : (fun i h => ScalarsValue.W2 (w1 m) c (ix2 i h)) = fun (i : Fin 1024) (h : Fin 256) => a8 m c (ix2 i h) := funext fun h => funext fun j => w2_at m c h j
  have h3 : (fun i => ScalarsValue.B2 (w1 m) c (ix2 0 i)) = fun (i : Fin 1024) => a9 m c (ix1 i) := funext fun h => b2_at m c h
  rw [ScalarsValue.pay1_at, mean_sc, h0, h1, h2, h3]

theorem scale_at (b : Fin 8) (i : Fin 512) : ImpValue.A (w2 m) c (ix3 b i 0) = scale m c b i := by
  rw [a_at, ScalarsValue.arr8, ScalarsValue.pay2_at, film_at, ScalarsValue.pay8_at, mean_sg, mean_s1, mean_s2]

theorem shift_at (b : Fin 8) (i : Fin 512) : ImpValue.B (w2 m) c (ix3 b i 0) = shift m c b i := by
  rw [b_at, ScalarsValue.arr9, ScalarsValue.pay3_at, film_at, ScalarsValue.pay2_at, film_at, ScalarsValue.pay8_at, ScalarsValue.pay7_at, mean_sg, mean_s1, mean_s2]

theorem yAt_eq (b : Fin 8) (i : Fin 512) (l : Fin 16384) : ImpValue.yAt (w2 m) c b i l = adapted m c b i l := by
  have hx : ImpValue.X (w2 m) c = a0 m c := w2_arg0 m c
  unfold ImpValue.yAt adapted
  rw [scale_at, shift_at, hx]

/-- The adapted data the run ends with. -/
theorem y_eq : w3 m c (Proc.devRef .tc main_v16_1) = fun j : S8x512x16384.Idx => adapted m c (j 0) (j 1) (j 2) := by
  have r : w3 m c (Proc.devRef .tc main_v16_1) = (Imp.dat (w2 m) c).arrAt 4 cfg2.N := Pipeline.afterRegion_arr (cfg := cfg2) (Imp.dat (w2 m) c) (w2 m c) winFacts2.arr_inj 4
  rw [r, ImpValue.arr4]
  funext j
  exact yAt_eq m c (j 0) (j 1) (j 2)

/-- The importance sums the run ends with. -/
theorem imp_eq : w3 m c (Proc.devRef .tc main_v16_0)
    = fun j : S8x512x1.Idx => ∑ l : Fin 16384, FloatOps.absf (F := Ideal) (φ := .f32) (adapted m c (j 0) (j 1) l) := by
  have r : w3 m c (Proc.devRef .tc main_v16_0) = (Imp.dat (w2 m) c).arrAt 3 cfg2.N := Pipeline.afterRegion_arr (cfg := cfg2) (Imp.dat (w2 m) c) (w2 m c) winFacts2.arr_inj 3
  rw [r, ImpValue.arr3]
  funext j
  exact Finset.sum_congr rfl fun l _ => congrArg (FloatOps.absf (F := Ideal) (φ := .f32)) (yAt_eq m c (j 0) (j 1) l)

end Cert.KernelIdeal.RunValue

end
-- ==== Proof.RVal.lean ====
module

public import proofs.«01_k».proof.Proof.Gen.ReferenceIdeal.Run
public import Idealize.ShloMosaic.Lib.Pointwise
public import proofs.«01_k».proof.Proof.Duan

/-!
The reference's two results, in named parts, and each part at an index over the extended reals.
-/

@[expose] public section

set_option maxRecDepth 16384

noncomputable section

namespace Cert.ReferenceIdeal.Parts

open Cert.ReferenceIdeal Cert.ReferenceIdeal.Gen Idealize.ShloMosaic Idealize.ShloMosaic.TcCoe Idealize.SL.Sem Idealize.ShloMosaic.StableHlo

section Terms
variable {F : FTy → Type} [FloatOps F]

/-- The scale and the shift, one after the other along the channels, from the pooled condition. -/
def gb (c : FVec F S8x512x16384 .f32) (w1 : FVec F S256x512 .f32) (b1 : FVec F S256 .f32) (w2 : FVec F S1024x256 .f32) (b2 : FVec F S1024 .f32) : FVec F S8x1024x1 .f32 :=
  addf (transpose S8x1024x1 [0, 2, 1] (Host.dotGeneral dot_S8x256x1_S1024x256_S8x1x1024_1_1_02_0_n_n none (maximumf (addf (transpose S8x256x1 [0, 2, 1] (Host.dotGeneral dot_S8x512x1_S256x512_S8x1x256_1_1_02_0_n_n none (Host.divf (broadcastInDim S8x512x1 ![0, 1] bcast_S8x512_S8x512x1_0_1 (Host.reduceAdd c (constant S_ .f32 0x00000000#32) reducesTo_S8x512x16384_S8x512_d2 h_S_)) (broadcastInDim S8x512x1 ![] bcast_S_S8x512x1 (constant S_ .f32 0x46800000#32))) w1) transposes_S8x1x256_S8x256x1_0_2_1) (broadcastInDim S8x256x1 ![0, 1, 2] bcast_S1x256x1_S8x256x1_0_1_2 (broadcastInDim S1x256x1 ![1] bcast_S256_S1x256x1_1 b1))) (broadcastInDim S8x256x1 ![] bcast_S_S8x256x1 (constant S_ .f32 0x00000000#32))) w2) transposes_S8x1x1024_S8x1024x1_0_2_1) (broadcastInDim S8x1024x1 ![0, 1, 2] bcast_S1x1024x1_S8x1024x1_0_1_2 (broadcastInDim S1x1024x1 ![1] bcast_S1024_S1x1024x1_1 b2))

/-- Each channel's mean. -/
def muC (x : FVec F S8x512x16384 .f32) : FVec F S8x512x1 .f32 :=
  Host.divf (broadcastInDim S8x512x1 ![0, 1] bcast_S8x512_S8x512x1_0_1 (Host.reduceAdd x (constant S_ .f32 0x00000000#32) reducesTo_S8x512x16384_S8x512_d2 h_S_)) (broadcastInDim S8x512x1 ![] bcast_S_S8x512x1 (constant S_ .f32 0x46800000#32))

/-- Each batch entry's mean. -/
def muL (x : FVec F S8x512x16384 .f32) : FVec F S8x1x1 .f32 :=
  Host.divf (broadcastInDim S8x1x1 ![0] bcast_S8_S8x1x1_0 (Host.reduceAdd x (constant S_ .f32 0x00000000#32) reducesTo_S8x512x16384_S8_d1_2 h_S_)) (broadcastInDim S8x1x1 ![] bcast_S_S8x1x1 (constant S_ .f32 0x4B000000#32))

/-- The gate's mean over the spatial axis. -/
def gm (c : FVec F S8x512x16384 .f32) (gw1 : FVec F S256x512 .f32) (gb1 : FVec F S256 .f32) (gw2 : FVec F S512x256 .f32) (gb2 : FVec F S512 .f32) : FVec F S8x512x1 .f32 :=
  Host.divf (broadcastInDim S8x512x1 ![0, 1] bcast_S8x512_S8x512x1_0_1 (Host.reduceAdd (Host.divf (broadcastInDim S8x512x16384 ![] bcast_S_S8x512x16384 (constant S_ .f32 0x3F800000#32)) (addf (broadcastInDim S8x512x16384 ![] bcast_S_S8x512x16384 (constant S_ .f32 0x3F800000#32)) (Host.exp (Host.negf (addf (transpose S8x512x16384 [0, 2, 1] (Host.dotGeneral dot_S8x256x16384_S512x256_S8x16384x512_1_1_02_0_n_n none (maximumf (addf (transpose S8x256x16384 [0, 2, 1] (Host.dotGeneral dot_S8x512x16384_S256x512_S8x16384x256_1_1_02_0_n_n none c gw1) transposes_S8x16384x256_S8x256x16384_0_2_1) (broadcastInDim S8x256x16384 ![0, 1, 2] bcast_S1x256x1_S8x256x16384_0_1_2 (broadcastInDim S1x256x1 ![1] bcast_S256_S1x256x1_1 gb1))) (broadcastInDim S8x256x16384 ![] bcast_S_S8x256x16384 (constant S_ .f32 0x00000000#32))) gw2) transposes_S8x16384x512_S8x512x16384_0_2_1) (broadcastInDim S8x512x16384 ![0, 1, 2] bcast_S1x512x1_S8x512x16384_0_1_2 (broadcastInDim S1x512x1 ![1] bcast_S512_S1x512x1_1 gb2))))))) (constant S_ .f32 0x00000000#32) reducesTo_S8x512x16384_S8x512_d2 h_S_)) (broadcastInDim S8x512x1 ![] bcast_S_S8x512x1 (constant S_ .f32 0x46800000#32))

/-- Each channel's variance. -/
def varC (x : FVec F S8x512x16384 .f32) : FVec F S8x512x1 .f32 :=
  select (broadcastInDim S8x512x1 ![] bcast_S_S8x512x1 (cmpf .ogt (subf (constant S_ .f32 0x46800000#32) (sitofp .f32 (constantI S_ 32 0#32)) : (⟨S_, .f32⟩ : BufTy).Contents (Elt F)) (constant S_ .f32 0x00000000#32))) (Host.divf (broadcastInDim S8x512x1 ![0, 1] bcast_S8x512_S8x512x1_0_1 (Host.reduceAdd (mulf (subf x (broadcastInDim S8x512x16384 ![0, 1, 2] bcast_S8x512x1_S8x512x16384_0_1_2 (muC x))) (subf x (broadcastInDim S8x512x16384 ![0, 1, 2] bcast_S8x512x1_S8x512x16384_0_1_2 (muC x)))) (constant S_ .f32 0x00000000#32) reducesTo_S8x512x16384_S8x512_d2 h_S_)) (broadcastInDim S8x512x1 ![] bcast_S_S8x512x1 (subf (constant S_ .f32 0x46800000#32) (sitofp .f32 (constantI S_ 32 0#32))))) (broadcastInDim S8x512x1 ![] bcast_S_S8x512x1 (id (constant S_ .f32 0x7FC00000#32)))

/-- Each batch entry's variance. -/
def varL (x : FVec F S8x512x16384 .f32) : FVec F S8x1x1 .f32 :=
  select (broadcastInDim S8x1x1 ![] bcast_S_S8x1x1 (cmpf .ogt (subf (constant S_ .f32 0x4B000000#32) (sitofp .f32 (constantI S_ 32 0#32)) : (⟨S_, .f32⟩ : BufTy).Contents (Elt F)) (constant S_ .f32 0x00000000#32))) (Host.divf (broadcastInDim S8x1x1 ![0] bcast_S8_S8x1x1_0 (Host.reduceAdd (mulf (subf x (broadcastInDim S8x512x16384 ![0, 1, 2] bcast_S8x1x1_S8x512x16384_0_1_2 (muL x))) (subf x (broadcastInDim S8x512x16384 ![0, 1, 2] bcast_S8x1x1_S8x512x16384_0_1_2 (muL x)))) (constant S_ .f32 0x00000000#32) reducesTo_S8x512x16384_S8_d1_2 h_S_)) (broadcastInDim S8x1x1 ![] bcast_S_S8x1x1 (subf (constant S_ .f32 0x4B000000#32) (sitofp .f32 (constantI S_ 32 0#32))))) (broadcastInDim S8x1x1 ![] bcast_S_S8x1x1 (id (constant S_ .f32 0x7FC00000#32)))

/-- The mixed mean. -/
def mu (x : FVec F S8x512x16384 .f32) (c : FVec F S8x512x16384 .f32) (gw1 : FVec F S256x512 .f32) (gb1 : FVec F S256 .f32) (gw2 : FVec F S512x256 .f32) (gb2 : FVec F S512 .f32) : FVec F S8x512x1 .f32 :=
  addf (mulf (gm c gw1 gb1 gw2 gb2) (muC x)) (mulf (subf (broadcastInDim S8x512x1 ![] bcast_S_S8x512x1 (constant S_ .f32 0x3F800000#32)) (gm c gw1 gb1 gw2 gb2)) (broadcastInDim S8x512x1 ![0, 1, 2] bcast_S8x1x1_S8x512x1_0_1_2 (muL x)))

/-- The mixed deviation. -/
def sigma (x : FVec F S8x512x16384 .f32) (c : FVec F S8x512x16384 .f32) (gw1 : FVec F S256x512 .f32) (gb1 : FVec F S256 .f32) (gw2 : FVec F S512x256 .f32) (gb2 : FVec F S512 .f32) : FVec F S8x512x1 .f32 :=
  addf (mulf (gm c gw1 gb1 gw2 gb2) (Host.sqrt (addf (varC x) (broadcastInDim S8x512x1 ![] bcast_S_S8x512x1 (constant S_ .f32 0x3A83126F#32))))) (mulf (subf (broadcastInDim S8x512x1 ![] bcast_S_S8x512x1 (constant S_ .f32 0x3F800000#32)) (gm c gw1 gb1 gw2 gb2)) (broadcastInDim S8x512x1 ![0, 1, 2] bcast_S8x1x1_S8x512x1_0_1_2 (Host.sqrt (addf (varL x) (broadcastInDim S8x1x1 ![] bcast_S_S8x1x1 (constant S_ .f32 0x3A83126F#32))))))

/-- The normalised, scaled and shifted array. -/
def y (x : FVec F S8x512x16384 .f32) (c : FVec F S8x512x16384 .f32) (gw1 : FVec F S256x512 .f32) (gb1 : FVec F S256 .f32) (gw2 : FVec F S512x256 .f32) (gb2 : FVec F S512 .f32) (w1 : FVec F S256x512 .f32) (b1 : FVec F S256 .f32) (w2 : FVec F S1024x256 .f32) (b2 : FVec F S1024 .f32) : FVec F S8x512x16384 .f32 :=
  addf (mulf (broadcastInDim S8x512x16384 ![0, 1, 2] bcast_S8x512x1_S8x512x16384_0_1_2 (addf (broadcastInDim S8x512x1 ![] bcast_S_S8x512x1 (constant S_ .f32 0x3F800000#32)) (extractStridedSlice S8x512x1 ![0, 0, 0] (gb c w1 b1 w2 b2) slices_S8x1024x1_S8x512x1_0_0_0))) (Host.divf (subf x (broadcastInDim S8x512x16384 ![0, 1, 2] bcast_S8x512x1_S8x512x16384_0_1_2 (mu x c gw1 gb1 gw2 gb2))) (broadcastInDim S8x512x16384 ![0, 1, 2] bcast_S8x512x1_S8x512x16384_0_1_2 (sigma x c gw1 gb1 gw2 gb2)))) (broadcastInDim S8x512x16384 ![0, 1, 2] bcast_S8x512x1_S8x512x16384_0_1_2 (extractStridedSlice S8x512x1 ![0, 512, 0] (gb c w1 b1 w2 b2) slices_S8x1024x1_S8x512x1_0_512_0))

/-- The importance of each channel: the sum of the magnitudes. -/
def imp (x : FVec F S8x512x16384 .f32) (c : FVec F S8x512x16384 .f32) (gw1 : FVec F S256x512 .f32) (gb1 : FVec F S256 .f32) (gw2 : FVec F S512x256 .f32) (gb2 : FVec F S512 .f32) (w1 : FVec F S256x512 .f32) (b1 : FVec F S256 .f32) (w2 : FVec F S1024x256 .f32) (b2 : FVec F S1024 .f32) : FVec F S8x512x1 .f32 :=
  broadcastInDim S8x512x1 ![0, 1] bcast_S8x512_S8x512x1_0_1 (Host.reduceAdd (Host.absf (y x c gw1 gb1 gw2 gb2 w1 b1 w2 b2)) (constant S_ .f32 0x00000000#32) reducesTo_S8x512x16384_S8x512_d2 h_S_)

set_option maxHeartbeats 4000000 in
/-- The first program value returned second is `y` of the arguments. -/
theorem y_eq (m : (ℓ : Loc nD τ sig) → Buf (Elt F) ℓ) (c : Dev nD) :
    Cert.ReferenceIdeal.Value.res_main_v75 m c = y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

set_option maxHeartbeats 4000000 in
/-- The value returned first is `imp` of the arguments. -/
theorem imp_eq (m : (ℓ : Loc nD τ sig) → Buf (Elt F) ℓ) (c : Dev nD) :
    Cert.ReferenceIdeal.Value.res_main_v78 m c = imp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

end Terms

section AtIndex
variable (x c : FVec Ideal S8x512x16384 .f32) (gw1 : FVec Ideal S256x512 .f32) (gb1 : FVec Ideal S256 .f32) (gw2 : FVec Ideal S512x256 .f32) (gb2 : FVec Ideal S512 .f32)
  (w1 : FVec Ideal S256x512 .f32) (b1 : FVec Ideal S256 .f32) (w2 : FVec Ideal S1024x256 .f32) (b2 : FVec Ideal S1024 .f32) (b : Fin 8) (i : Fin 512) (l : Fin 16384)

/-- One batch entry of an array. -/
abbrev entry (x : FVec Ideal S8x512x16384 .f32) (b : Fin 8) : Fin 512 → Fin 16384 → EReal := fun i l => x (ix3 b i l)

/-- The gates of one batch entry. -/
abbrev gates : Fin 512 → Fin 16384 → EReal :=
  Duan.gate (entry c b) (fun h j => gw1 (ix2 h j)) (fun h => gb1 (ix1 h)) (fun i h => gw2 (ix2 i h)) (fun i => gb2 (ix1 i))

theorem muC_at : muC x (ix3 b i 0) = Duan.meanC (entry x b) i := by
  pointwise [muC, Duan.meanC]

theorem muL_at : muL x (ix3 b 0 0) = Duan.meanL (entry x b) := by
  pointwise [muL, Duan.meanL]

theorem gm_at : gm c gw1 gb1 gw2 gb2 (ix3 b i 0) = Duan.meanC (gates c gw1 gb1 gw2 gb2 b) i := by
  have e1 : ∀ (l : Fin 16384) (h : Fin 256), ∑ j : Fin 512, c (ix3 b j l) * gw1 (ix2 h j) = ∑ j : Fin 512, gw1 (ix2 h j) * c (ix3 b j l) :=
    fun l h => Finset.sum_congr rfl fun j _ => mul_comm _ _
  have e2 : ∀ l : Fin 16384, ∑ h : Fin 256, max (∑ j : Fin 512, gw1 (ix2 h j) * c (ix3 b j l) + gb1 (ix1 h)) 0 * gw2 (ix2 i h)
      = ∑ h : Fin 256, gw2 (ix2 i h) * max (∑ j : Fin 512, gw1 (ix2 h j) * c (ix3 b j l) + gb1 (ix1 h)) 0 :=
    fun l => Finset.sum_congr rfl fun h _ => mul_comm _ _
  pointwise [gm, Duan.meanC]
  simp only [e1, e2, Duan.gate, Ideal.logistic]

/-- The number of elements, less a correction of none, is itself, and positive. -/
theorem len_sub : Duan.len - FloatOps.sitofp (F := Ideal) .f32 (0#32 : BitVec 32) = Duan.len := by
  show Duan.len - (((0#32 : BitVec 32).toInt : ℝ) : EReal) = Duan.len
  simp
theorem total_sub : Duan.total - FloatOps.sitofp (F := Ideal) .f32 (0#32 : BitVec 32) = Duan.total := by
  show Duan.total - (((0#32 : BitVec 32).toInt : ℝ) : EReal) = Duan.total
  simp
theorem len_pos : 0 < Duan.len := by rw [Duan.len_eq]; exact EReal.coe_pos.mpr (by norm_num)
theorem total_pos : 0 < Duan.total := by rw [Duan.total_eq]; exact EReal.coe_pos.mpr (by norm_num)

theorem varC_at : varC x (ix3 b i 0) = Duan.varC (entry x b) i := by
  pointwise [varC, Duan.varC]
  rw [len_sub, if_pos len_pos, muC_at]

theorem varL_at : varL x (ix3 b 0 0) = Duan.varL (entry x b) := by
  pointwise [varL, Duan.varL]
  rw [total_sub, if_pos total_pos, muL_at]

theorem gb_at (g : Fin 1024) : gb c w1 b1 w2 b2 (ix3 b g 0)
    = Duan.film (Duan.meanC (entry c b)) (fun h j => w1 (ix2 h j)) (fun h => b1 (ix1 h)) (fun k h => w2 (ix2 k h)) (fun k => b2 (ix1 k)) g := by
  pointwise [gb, Duan.film, Duan.meanC]

theorem mu_at : mu x c gw1 gb1 gw2 gb2 (ix3 b i 0) = Duan.muR (entry x b) (Duan.meanC (gates c gw1 gb1 gw2 gb2 b)) i := by
  pointwise [mu, Duan.muR, Duan.mix]
  rw [gm_at, muC_at, muL_at]

theorem sig_at : sigma x c gw1 gb1 gw2 gb2 (ix3 b i 0) = Duan.sigR (entry x b) (Duan.meanC (gates c gw1 gb1 gw2 gb2 b)) i := by
  pointwise [sigma, Duan.sigR, Duan.mix]
  rw [gm_at, varC_at, varL_at]

theorem y_at : y x c gw1 gb1 gw2 gb2 w1 b1 w2 b2 (ix3 b i l)
    = (1 + gb c w1 b1 w2 b2 (ix3 b ⟨i.val, by omega⟩ 0)) * Ideal.div (x (ix3 b i l) - mu x c gw1 gb1 gw2 gb2 (ix3 b i 0)) (sigma x c gw1 gb1 gw2 gb2 (ix3 b i 0))
      + gb c w1 b1 w2 b2 (ix3 b ⟨512 + i.val, by omega⟩ 0) := by
  pointwise [y]

theorem imp_at : imp x c gw1 gb1 gw2 gb2 w1 b1 w2 b2 (ix3 b i 0)
    = ∑ l, FloatOps.absf (F := Ideal) (φ := .f32) (y x c gw1 gb1 gw2 gb2 w1 b1 w2 b2 (ix3 b i l)) := by
  pointwise [imp]

end AtIndex

end Cert.ReferenceIdeal.Parts
-- ==== Proof.Finite.lean ====
module

public import proofs.«01_k».proof.Pre_finite_inputs
public import Idealize.ShloMosaic.Lib.ReduceAll
public import Idealize.ShloMosaic.Lib.Pointwise

/-!
The precondition read: where it holds, the six arrays it names hold real numbers.
-/

@[expose] public section

set_option maxRecDepth 16384

noncomputable section

namespace Cert.Finite

open Idealize.ShloMosaic Cert.Pre_finite_inputs

/-- The side conditions of the precondition's operations. -/
theorem facts : Cert.Pre_finite_inputs.Facts where
  bcast_S_S8x512x16384 := by decide
  reducesTo_S8x512x16384_S_d0_1_2 := by decide
  h_S_ := by decide
  bcast_S_S256x512 := by decide
  reducesTo_S256x512_S_d0_1 := by decide
  bcast_S_S256 := by decide
  reducesTo_S256_S_d0 := by decide
  bcast_S_S1024x256 := by decide
  reducesTo_S1024x256_S_d0_1 := by decide
  bcast_S_S1024 := by decide
  reducesTo_S1024_S_d0 := by decide

instance : Subsingleton (S_ : Shape).Idx := ⟨fun a b => funext fun d => d.elim0⟩

/-- A value whose magnitude is below the largest is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- An array all of whose magnitudes compare below the largest value is an array of real numbers. -/
theorem reals {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) :
    ∃ r : s.Idx → ℝ, x = fun i => (r i : EReal) := by
  have e : ∀ i, ∃ r : ℝ, x i = (r : EReal) := fun i => real_of_lt _ (Host.reduce_andi_all _ _ hr hu j h i)
  choose r hr using e
  exact ⟨r, funext hr⟩

/-- Where the precondition holds, the six arrays it names hold real numbers. -/
theorem reals_of_pre [Cert.Pre_finite_inputs.Facts] (x0 x1 : FVec Ideal S8x512x16384 .f32) (x2 : FVec Ideal S256x512 .f32) (x3 : FVec Ideal S256 .f32)
    (x4 : FVec Ideal S512x256 .f32) (x5 : FVec Ideal S512 .f32) (x6 : FVec Ideal S256x512 .f32) (x7 : FVec Ideal S256 .f32)
    (x8 : FVec Ideal S1024x256 .f32) (x9 : FVec Ideal S1024 .f32) (j : S_.Idx) (h : fn (F := Ideal) x0 x1 x2 x3 x4 x5 x6 x7 x8 x9 j = 1#1) :
    (∃ r : S8x512x16384.Idx → ℝ, x0 = fun i => (r i : EReal)) ∧ (∃ r : S8x512x16384.Idx → ℝ, x1 = fun i => (r i : EReal))
      ∧ (∃ r : S256x512.Idx → ℝ, x6 = fun i => (r i : EReal)) ∧ (∃ r : S256.Idx → ℝ, x7 = fun i => (r i : EReal))
      ∧ (∃ r : S1024x256.Idx → ℝ, x8 = fun i => (r i : EReal)) ∧ (∃ r : S1024.Idx → ℝ, x9 = fun i => (r i : EReal)) := by
  dsimp only [fn, fn_part1] at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h0, h1⟩ := IntOp.andi_eq_one.1 h
  exact ⟨reals x0 _ _ _ j h0, reals x1 _ _ _ j h1, reals x6 _ _ _ j h6, reals x7 _ _ _ j h7, reals x8 _ _ _ j h8, reals x9 _ _ _ j h9⟩

end Cert.Finite

end
-- ==== Proof.Equal.lean ====
module

public import proofs.«01_k».proof.Proof.VRun
public import proofs.«01_k».proof.Proof.RVal
public import proofs.«01_k».proof.Proof.Duan

/-!
The adapted data of the kernel is that of the reference, on real data, conditions and modulation weights.
-/

@[expose] public section

set_option maxRecDepth 16384

noncomputable section

namespace Cert.Equal

open Idealize.ShloMosaic Idealize.ShloMosaic.TcCoe
open Cert.KernelIdeal Cert.KernelIdeal.RunValue

variable (m : (ℓ : Loc nD τ sig) → Buf (Elt Ideal) ℓ) (c : Dev nD)

/-- Over real inputs the kernel's scale and shift form is the reference's normalise then modulate. -/
theorem adapted_eq
    (h0 : ∃ r : S8x512x16384.Idx → ℝ, a0 m c = fun i => (r i : EReal)) (h1 : ∃ r : S8x512x16384.Idx → ℝ, a1 m c = fun i => (r i : EReal))
    (h6 : ∃ r : S256x512.Idx → ℝ, a6 m c = fun i => (r i : EReal)) (h7 : ∃ r : S256.Idx → ℝ, a7 m c = fun i => (r i : EReal))
    (h8 : ∃ r : S1024x256.Idx → ℝ, a8 m c = fun i => (r i : EReal)) (h9 : ∃ r : S1024.Idx → ℝ, a9 m c = fun i => (r i : EReal))
    (b : Fin 8) (i : Fin 512) (l : Fin 16384) :
    adapted m c b i l
      = Cert.ReferenceIdeal.Parts.y (a0 m c) (a1 m c) (a2 m c) (a3 m c) (a4 m c) (a5 m c) (a6 m c) (a7 m c) (a8 m c) (a9 m c) (ix3 b i l) := by
  obtain ⟨x, hx⟩ := h0
  obtain ⟨k, hk⟩ := h1
  obtain ⟨w1, hw1⟩ := h6
  obtain ⟨b1, hb1⟩ := h7
  obtain ⟨w2, hw2⟩ := h8
  obtain ⟨b2, hb2⟩ := h9
  have ex : entry (a0 m c) b = fun i l => (x (ix3 b i l) : EReal) := by rw [hx]
  have ek : entry (a1 m c) b = fun i l => (k (ix3 b i l) : EReal) := by rw [hk]
  obtain ⟨g, g0, g1, eg⟩ := Duan.gateMean_real (gates m c b) (fun i l => Duan.logistic_real _)
  have ef : ∀ n, ∃ r : ℝ, film m c b n = (r : EReal) := fun n => by
    have ep : Duan.meanC (entry (a1 m c) b) = fun j => (((∑ l, k (ix3 b j l)) / 16384 : ℝ) : EReal) := by
      rw [ek]; exact funext fun j => Duan.meanC_real (fun i l => k (ix3 b i l)) j
    unfold film
    rw [ep, hw1, hb1, hw2, hb2]
    exact Duan.film_real _ (fun h j => w1 (ix2 h j)) (fun h => b1 (ix1 h)) (fun n h => w2 (ix2 n h)) (fun n => b2 (ix1 n)) n
  have em : mu m c b i = Duan.muR (entry (a0 m c) b) (Duan.meanC (gates m c b)) i := by
    unfold mu
    rw [eg, ex]; exact Duan.mu_eq _ _ _
  have es : sd m c b i = Duan.sigR (entry (a0 m c) b) (Duan.meanC (gates m c b)) i := by
    unfold sd
    rw [eg, ex]; exact Duan.sig_eq _ _ _
  obtain ⟨u, hu⟩ : ∃ r : ℝ, Duan.muR (entry (a0 m c) b) (Duan.meanC (gates m c b)) i = (r : EReal) := by
    rw [eg, ex]; exact Duan.mu_real _ _ _
  obtain ⟨s, hs, hse⟩ : ∃ r : ℝ, 0 < r ∧ Duan.sigR (entry (a0 m c) b) (Duan.meanC (gates m c b)) i = (r : EReal) := by
    rw [eg, ex]; exact Duan.sig_real _ _ _ (g0 i) (g1 i)
  obtain ⟨p, hp⟩ := ef ⟨i.val, by omega⟩
  obtain ⟨q, hq⟩ := ef ⟨512 + i.val, by omega⟩
  have hxi : a0 m c (ix3 b i l) = (x (ix3 b i l) : EReal) := congrFun hx _
  rw [Cert.ReferenceIdeal.Parts.y_at, Cert.ReferenceIdeal.Parts.gb_at, Cert.ReferenceIdeal.Parts.gb_at, Cert.ReferenceIdeal.Parts.mu_at,
    Cert.ReferenceIdeal.Parts.sig_at]
  unfold adapted shift scale
  rw [em, es]
  refine Eq.trans ?_ ((Duan.affine p q u s (x (ix3 b i l)) hs).trans ?_)
  · rw [hu, hse, hp, hq, hxi]
  · rw [← hu, ← hse, ← hp, ← hq, ← hxi]

/-- The run's adapted data are the reference's. -/
theorem y_eq
    (h0 : ∃ r : S8x512x16384.Idx → ℝ, a0 m c = fun i => (r i : EReal)) (h1 : ∃ r : S8x512x16384.Idx → ℝ, a1 m c = fun i => (r i : EReal))
    (h6 : ∃ r : S256x512.Idx → ℝ, a6 m c = fun i => (r i : EReal)) (h7 : ∃ r : S256.Idx → ℝ, a7 m c = fun i => (r i : EReal))
    (h8 : ∃ r : S1024x256.Idx → ℝ, a8 m c = fun i => (r i : EReal)) (h9 : ∃ r : S1024.Idx → ℝ, a9 m c = fun i => (r i : EReal)) :
    (Run.w3 m c (Proc.devRef .tc main_v16_1) : FVec Ideal S8x512x16384 .f32)
      = Cert.ReferenceIdeal.Parts.y (a0 m c) (a1 m c) (a2 m c) (a3 m c) (a4 m c) (a5 m c) (a6 m c) (a7 m c) (a8 m c) (a9 m c) := by
  rw [RunValue.y_eq]
  refine funext fun (j : S8x512x16384.Idx) => ?_
  have hj : j = ix3 (j 0) (j 1) (j 2) := by funext d; fin_cases d <;> rfl
  exact (adapted_eq m c h0 h1 h6 h7 h8 h9 (j 0) (j 1) (j 2)).trans (congrArg _ hj.symm)

/-- The run's importance sums are the reference's. -/
theorem imp_eq
    (h0 : ∃ r : S8x512x16384.Idx → ℝ, a0 m c = fun i => (r i : EReal)) (h1 : ∃ r : S8x512x16384.Idx → ℝ, a1 m c = fun i => (r i : EReal))
    (h6 : ∃ r : S256x512.Idx → ℝ, a6 m c = fun i => (r i : EReal)) (h7 : ∃ r : S256.Idx → ℝ, a7 m c = fun i => (r i : EReal))
    (h8 : ∃ r : S1024x256.Idx → ℝ, a8 m c = fun i => (r i : EReal)) (h9 : ∃ r : S1024.Idx → ℝ, a9 m c = fun i => (r i : EReal)) :
    (Run.w3 m c (Proc.devRef .tc main_v16_0) : FVec Ideal S8x512x1 .f32)
      = Cert.ReferenceIdeal.Parts.imp (a0 m c) (a1 m c) (a2 m c) (a3 m c) (a4 m c) (a5 m c) (a6 m c) (a7 m c) (a8 m c) (a9 m c) := by
  rw [RunValue.imp_eq]
  refine funext fun (j : S8x512x1.Idx) => ?_
  have hj : j = ix3 (j 0) (j 1) 0 := by funext d; fin_cases d <;> first | rfl | exact Subsingleton.elim (α := Fin 1) _ _
  refine Eq.trans ?_ ((Cert.ReferenceIdeal.Parts.imp_at (a0 m c) (a1 m c) (a2 m c) (a3 m c) (a4 m c) (a5 m c) (a6 m c) (a7 m c) (a8 m c) (a9 m c) (j 0) (j 1)).symm.trans (congrArg _ hj.symm))
  exact Finset.sum_congr rfl fun l _ => congrArg (FloatOps.absf (F := Ideal) (φ := .f32)) (adapted_eq m c h0 h1 h6 h7 h8 h9 (j 0) (j 1) l)

end Cert.Equal

end
-- ==== Proof.lean ====
/-
  The certificate of the dual-normalisation kernel's first three calls. The runs of the program and of its idealization are in
  Proof/KRun.lean and Proof/IRun.lean; what the idealization's run leaves in its two results is in Proof/VRun.lean; the reference's
  two results are in Proof/RVal.lean; what the precondition gives is in Proof/Finite.lean; and the equality of the adapted data on
  real inputs is in Proof/Equal.lean. Here the claims are put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KRun
public import proofs.«01_k».proof.Proof.IRun
public import proofs.«01_k».proof.Proof.VRun
public import proofs.«01_k».proof.Proof.RVal
public import proofs.«01_k».proof.Proof.Finite
public import proofs.«01_k».proof.Proof.Equal

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Finite.facts

/-- The reference declares no semaphore, and no operation of it writes an argument. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The two results of the idealized kernel are those of the reference, on finite inputs. -/
theorem algebraic : Cert.algebraic_KernelIdeal_ReferenceIdeal_pre_finite_inputs := by
  intro m ρ m' ρ' hpre hag
  refine ⟨fun c => Cert.ReferenceIdeal.Value.res_main_v78 m' c, fun c => Cert.ReferenceIdeal.Value.res_main_v75 m' c, ?_, ?_⟩
  · refine (θ_run Cert.KernelIdeal.defs _ _).mono (fun r h c => ⟨(h c).1.trans ?_, (h c).2.1.trans ?_, (h c).2.2⟩)
      (Cert.KernelIdeal.Run.results (F := Ideal) m ρ)
    all_goals
      obtain ⟨r0, r1, r6, r7, r8, r9⟩ := Cert.Finite.reals_of_pre _ _ _ _ _ _ _ _ _ _ (Shape.Idx.first Cert.Finite.facts.h_S_) (congrFun (hpre c) _)
      obtain ⟨g0, g1, g2, g3, g4, g5, g6, g7, g8, g9⟩ := hag c
    · exact (Cert.Equal.imp_eq m c r0 r1 r6 r7 r8 r9).trans ((Cert.ReferenceIdeal.Parts.imp_eq m' c).trans (by rw [g0, g1, g2, g3, g4, g5, g6, g7, g8, g9])).symm
    · exact (Cert.Equal.y_eq m c r0 r1 r6 r7 r8 r9).trans ((Cert.ReferenceIdeal.Parts.y_eq m' c).trans (by rw [g0, g1, g2, g3, g4, g5, g6, g7, g8, g9])).symm
  · exact Cert.ReferenceIdeal.Value.run (F := Ideal) m' ρ'

theorem claim : Cert.Claim := ⟨Cert.Kernel.Gen.facts, Cert.KernelIdeal.Gen.facts, Cert.ReferenceIdeal.Gen.facts, Cert.Finite.facts,
  fun m ρ _ => Cert.Kernel.Run.frame m ρ,
  fun m ρ _ => Cert.KernelIdeal.Run.frame m ρ,
  fun m ρ _ => Cert.KernelIdeal.Run.frame m ρ,
  reference_frame,
  fun m ρ _ => reference_frame m ρ trivial,
  trivial,
  algebraic⟩

end Cert.Proof

end
